-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_untied [hPre_finite_untied : Cert.Pre_finite_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_untied [hPre_finite_untied : Cert.Pre_finite_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_untied [hKernelIdeal : Cert.KernelIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_untied [hReferenceIdeal : Cert.ReferenceIdeal.Facts] [hPre_finite_untied : Cert.Pre_finite_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_untied [hKernelIdeal : Cert.KernelIdeal.Facts] [hReferenceIdeal : Cert.ReferenceIdeal.Facts] [hPre_finite_untied : Cert.Pre_finite_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v515) = v0 c
          ∧ r.2.mem ((c.tc : Thread Cert.ReferenceIdeal.nD Cert.ReferenceIdeal.τ).loc Cert.ReferenceIdeal.main_v500) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_untied : Cert.Pre_finite_untied.Facts),
    quiescent_Kernel (hKernel := hKernel)
    ∧ quiescent_KernelIdeal (hKernelIdeal := hKernelIdeal)
    ∧ quiescent_KernelIdeal_pre_finite_untied (hKernelIdeal := hKernelIdeal) (hPre_finite_untied := hPre_finite_untied)
    ∧ quiescent_ReferenceIdeal (hReferenceIdeal := hReferenceIdeal)
    ∧ quiescent_ReferenceIdeal_pre_finite_untied (hReferenceIdeal := hReferenceIdeal) (hPre_finite_untied := hPre_finite_untied)
    ∧ preserves_Kernel_KernelIdeal
    ∧ algebraic_KernelIdeal_ReferenceIdeal_pre_finite_untied (hKernelIdeal := hKernelIdeal) (hReferenceIdeal := hReferenceIdeal) (hPre_finite_untied := hPre_finite_untied)
-- ==== Pre_finite_untied.lean ====
abbrev S4x8x512x256 : Shape := ⟨4, ![4, 8, 512, 256]⟩
abbrev S256x256 : Shape := ⟨2, ![256, 256]⟩
abbrev S256 : Shape := ⟨1, ![256]⟩
abbrev S768x256 : Shape := ⟨2, ![768, 256]⟩
abbrev S768 : Shape := ⟨1, ![768]⟩
abbrev S4x1x512x256 : Shape := ⟨4, ![4, 1, 512, 256]⟩
abbrev S4x1x1024x256 : Shape := ⟨4, ![4, 1, 1024, 256]⟩
abbrev S4x6x512x256 : Shape := ⟨4, ![4, 6, 512, 256]⟩
abbrev S4x6x1536x256 : Shape := ⟨4, ![4, 6, 1536, 256]⟩
abbrev S_ : Shape := ⟨0, ![]⟩
abbrev S4x1x512 : Shape := ⟨3, ![4, 1, 512]⟩
abbrev S4x1x512x1 : Shape := ⟨4, ![4, 1, 512, 1]⟩
abbrev S4x1x512x512 : Shape := ⟨4, ![4, 1, 512, 512]⟩
abbrev S4x1x512x9 : Shape := ⟨4, ![4, 1, 512, 9]⟩
abbrev S4x1x1024 : Shape := ⟨3, ![4, 1, 1024]⟩
abbrev S4x1x1024x1 : Shape := ⟨4, ![4, 1, 1024, 1]⟩
abbrev S4x1x512x1024 : Shape := ⟨4, ![4, 1, 512, 1024]⟩
abbrev S4x6x512 : Shape := ⟨3, ![4, 6, 512]⟩
abbrev S4x6x512x1 : Shape := ⟨4, ![4, 6, 512, 1]⟩
abbrev S4x6x1536 : Shape := ⟨3, ![4, 6, 1536]⟩
abbrev S4x6x1536x1 : Shape := ⟨4, ![4, 6, 1536, 1]⟩
abbrev S4x6x512x1536 : Shape := ⟨4, ![4, 6, 512, 1536]⟩
abbrev S4x6x512x9 : Shape := ⟨4, ![4, 6, 512, 9]⟩
abbrev S1x256 : Shape := ⟨2, ![1, 256]⟩
abbrev S4x1x512x8 : Shape := ⟨4, ![4, 1, 512, 8]⟩
abbrev S4x6x512x8 : Shape := ⟨4, ![4, 6, 512, 8]⟩

class Facts : Prop where
  slices_S4x8x512x256_S4x1x512x256_0_0_0_0 : S4x8x512x256.Slices ![0, 0, 0, 0] S4x1x512x256
  slices_S4x8x512x256_S4x1x512x256_0_1_0_0 : S4x8x512x256.Slices ![0, 1, 0, 0] S4x1x512x256
  concatenates_S4x1x512x256_S4x1x512x256_S4x1x1024x256_d2 : Shape.Concatenates [S4x1x512x256, S4x1x512x256] S4x1x1024x256 2
  slices_S4x8x512x256_S4x6x512x256_0_2_0_0 : S4x8x512x256.Slices ![0, 2, 0, 0] S4x6x512x256
  slices_S4x8x512x256_S4x6x512x256_0_1_0_0 : S4x8x512x256.Slices ![0, 1, 0, 0] S4x6x512x256
  slices_S4x8x512x256_S4x6x512x256_0_0_0_0 : S4x8x512x256.Slices ![0, 0, 0, 0] S4x6x512x256
  concatenates_S4x6x512x256_S4x6x512x256_S4x6x512x256_S4x6x1536x256_d2 : Shape.Concatenates [S4x6x512x256, S4x6x512x256, S4x6x512x256] S4x6x1536x256 2
  reducesTo_S4x1x512x256_S4x1x512_d3 : S4x1x512x256.ReducesTo [3] S4x1x512
  h_S_ : 0 < S_.numel
  bcast_S4x1x512_S4x1x512x1_0_1_2 : S4x1x512.BroadcastsInDim S4x1x512x1 (![0, 1, 2] : Fin 3 → Fin S4x1x512x1.rank)
  bcast_S_S4x1x512x1 : S_.BroadcastsInDim S4x1x512x1 (![] : Fin 0 → Fin S4x1x512x1.rank)
  bcast_S4x1x512x1_S4x1x512x256_0_1_2_3 : S4x1x512x1.BroadcastsInDim S4x1x512x256 (![0, 1, 2, 3] : Fin 4 → Fin S4x1x512x256.rank)
  sliceFits_S4x1x512x512_S4x1x512x9 : S4x1x512x512.Slices (fun _ => 0) S4x1x512x9
  reducesTo_S4x1x1024x256_S4x1x1024_d3 : S4x1x1024x256.ReducesTo [3] S4x1x1024
  bcast_S4x1x1024_S4x1x1024x1_0_1_2 : S4x1x1024.BroadcastsInDim S4x1x1024x1 (![0, 1, 2] : Fin 3 → Fin S4x1x1024x1.rank)
  bcast_S_S4x1x1024x1 : S_.BroadcastsInDim S4x1x1024x1 (![] : Fin 0 → Fin S4x1x1024x1.rank)
  bcast_S4x1x1024x1_S4x1x1024x256_0_1_2_3 : S4x1x1024x1.BroadcastsInDim S4x1x1024x256 (![0, 1, 2, 3] : Fin 4 → Fin S4x1x1024x256.rank)
  sliceFits_S4x1x512x1024_S4x1x512x9 : S4x1x512x1024.Slices (fun _ => 0) S4x1x512x9
  reducesTo_S4x6x512x256_S4x6x512_d3 : S4x6x512x256.ReducesTo [3] S4x6x512
  bcast_S4x6x512_S4x6x512x1_0_1_2 : S4x6x512.BroadcastsInDim S4x6x512x1 (![0, 1, 2] : Fin 3 → Fin S4x6x512x1.rank)
  bcast_S_S4x6x512x1 : S_.BroadcastsInDim S4x6x512x1 (![] : Fin 0 → Fin S4x6x512x1.rank)
  bcast_S4x6x512x1_S4x6x512x256_0_1_2_3 : S4x6x512x1.BroadcastsInDim S4x6x512x256 (![0, 1, 2, 3] : Fin 4 → Fin S4x6x512x256.rank)
  reducesTo_S4x6x1536x256_S4x6x1536_d3 : S4x6x1536x256.ReducesTo [3] S4x6x1536
  bcast_S4x6x1536_S4x6x1536x1_0_1_2 : S4x6x1536.BroadcastsInDim S4x6x1536x1 (![0, 1, 2] : Fin 3 → Fin S4x6x1536x1.rank)
  bcast_S_S4x6x1536x1 : S_.BroadcastsInDim S4x6x1536x1 (![] : Fin 0 → Fin S4x6x1536x1.rank)
  bcast_S4x6x1536x1_S4x6x1536x256_0_1_2_3 : S4x6x1536x1.BroadcastsInDim S4x6x1536x256 (![0, 1, 2, 3] : Fin 4 → Fin S4x6x1536x256.rank)
  sliceFits_S4x6x512x1536_S4x6x512x9 : S4x6x512x1536.Slices (fun _ => 0) S4x6x512x9
  slices_S256x256_S1x256_0_0 : S256x256.Slices ![0, 0] S1x256
  bcast_S_S256x256 : S_.BroadcastsInDim S256x256 (![] : Fin 0 → Fin S256x256.rank)
  bcast_S_S1x256 : S_.BroadcastsInDim S1x256 (![] : Fin 0 → Fin S1x256.rank)
  slices_S4x1x512x9_S4x1x512x8_0_0_0_0 : S4x1x512x9.Slices ![0, 0, 0, 0] S4x1x512x8
  slices_S4x1x512x9_S4x1x512x8_0_0_0_1 : S4x1x512x9.Slices ![0, 0, 0, 1] S4x1x512x8
  slices_S4x6x512x9_S4x6x512x8_0_0_0_0 : S4x6x512x9.Slices ![0, 0, 0, 0] S4x6x512x8
  slices_S4x6x512x9_S4x6x512x8_0_0_0_1 : S4x6x512x9.Slices ![0, 0, 0, 1] S4x6x512x8
  dot_S4x1x512x256_S4x1x512x256_S4x1x512x512_3_3_2_2_01_01_wf : DotDims.WF S4x1x512x256 S4x1x512x256 S4x1x512x512 [3] [3] [2] [2] [0, 1] [0, 1]
  dot_S4x1x512x256_S4x1x1024x256_S4x1x512x1024_3_3_2_2_01_01_wf : DotDims.WF S4x1x512x256 S4x1x1024x256 S4x1x512x1024 [3] [3] [2] [2] [0, 1] [0, 1]
  dot_S4x6x512x256_S4x6x1536x256_S4x6x512x1536_3_3_2_2_01_01_wf : DotDims.WF S4x6x512x256 S4x6x1536x256 S4x6x512x1536 [3] [3] [2] [2] [0, 1] [0, 1]

variable [Facts]

def dot_S4x1x512x256_S4x1x512x256_S4x1x512x512_3_3_2_2_01_01 : DotDims S4x1x512x256 S4x1x512x256 S4x1x512x512 where
  lhsContracting := [3]
  rhsContracting := [3]
  lhsNonContracting := [2]
  rhsNonContracting := [2]
  lhsBatch := [0, 1]
  rhsBatch := [0, 1]
  wf := dot_S4x1x512x256_S4x1x512x256_S4x1x512x512_3_3_2_2_01_01_wf
def dot_S4x1x512x256_S4x1x1024x256_S4x1x512x1024_3_3_2_2_01_01 : DotDims S4x1x512x256 S4x1x1024x256 S4x1x512x1024 where
  lhsContracting := [3]
  rhsContracting := [3]
  lhsNonContracting := [2]
  rhsNonContracting := [2]
  lhsBatch := [0, 1]
  rhsBatch := [0, 1]
  wf := dot_S4x1x512x256_S4x1x1024x256_S4x1x512x1024_3_3_2_2_01_01_wf
def dot_S4x6x512x256_S4x6x1536x256_S4x6x512x1536_3_3_2_2_01_01 : DotDims S4x6x512x256 S4x6x1536x256 S4x6x512x1536 where
  lhsContracting := [3]
  rhsContracting := [3]
  lhsNonContracting := [2]
  rhsNonContracting := [2]
  lhsBatch := [0, 1]
  rhsBatch := [0, 1]
  wf := dot_S4x6x512x256_S4x6x1536x256_S4x6x512x1536_3_3_2_2_01_01_wf
def fn_part4 {F : FTy → Type} [FloatOps F] (main_values_7 : FVec F S4x1x512x9 .f32) (main_values_13 : FVec F S4x6x512x9 .f32) (main_v65 : IVec S256x256 1) (main_v68 : IVec S1x256 1) (main_v71 : IVec S256x256 1) (main_v74 : IVec S4x1x512x8 1) : IVec S256x256 1 × IVec S1x256 1 × IVec S256x256 1 × IVec S4x1x512x8 1 × IVec S4x1x512x8 1 × IVec S4x6x512x8 1 :=
  let main_v75 : FVec F S4x1x512x8 .f32 := (extractStridedSlice S4x1x512x8 ![0, 0, 0, 0] · slices_S4x1x512x9_S4x1x512x8_0_0_0_0) main_values_7
  let main_v76 : FVec F S4x1x512x8 .f32 := (extractStridedSlice S4x1x512x8 ![0, 0, 0, 1] · slices_S4x1x512x9_S4x1x512x8_0_0_0_1) main_values_7
  let main_v77 : IVec S4x1x512x8 1 := cmpf .ogt main_v75 main_v76
  let main_v78 : FVec F S4x6x512x8 .f32 := (extractStridedSlice S4x6x512x8 ![0, 0, 0, 0] · slices_S4x6x512x9_S4x6x512x8_0_0_0_0) main_values_13
  let main_v79 : FVec F S4x6x512x8 .f32 := (extractStridedSlice S4x6x512x8 ![0, 0, 0, 1] · slices_S4x6x512x9_S4x6x512x8_0_0_0_1) main_values_13
  let main_v80 : IVec S4x6x512x8 1 := cmpf .ogt main_v78 main_v79
  (main_v65, main_v68, main_v71, main_v74, main_v77, main_v80)

def fn_part3 {F : FTy → Type} [FloatOps F] (main_arg2 : FVec F S256x256 .f32) (main_arg6 : FVec F S256x256 .f32) (main_arg7 : FVec F S256x256 .f32) (main_v10 : FVec F S4x6x1536x256 .f32) (main_values : FVec F S4x1x512x9 .f32) (main_values_7 : FVec F S4x1x512x9 .f32) (main_v52 : FVec F S4x6x512x256 .f32) (main_v56 : FVec F S4x6x1536x1 .f32) : IVec S256x256 1 × IVec S1x256 1 × IVec S256x256 1 × IVec S4x1x512x8 1 × IVec S4x1x512x8 1 × IVec S4x6x512x8 1 :=
  let main_cst_12 : FVec F S_ .f32 := constant S_ .f32 0x2B8CBCCC#32
  let main_v57 : FVec F S4x6x1536x1 .f32 := broadcastInDim S4x6x1536x1 ![] bcast_S_S4x6x1536x1 main_cst_12
  let main_v58 : FVec F S4x6x1536x1 .f32 := maximumf main_v56 main_v57
  let main_v59 : FVec F S4x6x1536x256 .f32 := broadcastInDim S4x6x1536x256 ![0, 1, 2, 3] bcast_S4x6x1536x1_S4x6x1536x256_0_1_2_3 main_v58
  let main_v60 : FVec F S4x6x1536x256 .f32 := Host.divf main_v10 main_v59
  let main_v61 : FVec F S4x6x512x1536 .f32 := (fun l r => Host.dotGeneral dot_S4x6x512x256_S4x6x1536x256_S4x6x512x1536_3_3_2_2_01_01 none l r) main_v52 main_v60
  let main_values_13 : FVec F S4x6x512x9 .f32 := (fun x => (Host.topK S4x6x512x9 3 (FloatOps.cmpfTotal .gt) x sliceFits_S4x6x512x1536_S4x6x512x9).1) main_v61
  let main_indices_14 : IVec S4x6x512x9 32 := (fun x => (Host.topK S4x6x512x9 3 (FloatOps.cmpfTotal .gt) x sliceFits_S4x6x512x1536_S4x6x512x9).2) main_v61
  let main_v62 : FVec F S1x256 .f32 := (extractStridedSlice S1x256 ![0, 0] · slices_S256x256_S1x256_0_0) main_arg6
  let main_v63 : FVec F S256x256 .f32 := Host.absf main_arg2
  let main_cst_15 : FVec F S_ .f32 := constant S_ .f32 0x7F800000#32
  let main_v64 : FVec F S256x256 .f32 := broadcastInDim S256x256 ![] bcast_S_S256x256 main_cst_15
  let main_v65 : IVec S256x256 1 := cmpf .olt main_v63 main_v64
  let main_v66 : FVec F S1x256 .f32 := Host.absf main_v62
  let main_cst_16 : FVec F S_ .f32 := constant S_ .f32 0x7F800000#32
  let main_v67 : FVec F S1x256 .f32 := broadcastInDim S1x256 ![] bcast_S_S1x256 main_cst_16
  let main_v68 : IVec S1x256 1 := cmpf .olt main_v66 main_v67
  let main_v69 : FVec F S256x256 .f32 := Host.absf main_arg7
  let main_cst_17 : FVec F S_ .f32 := constant S_ .f32 0x7F800000#32
  let main_v70 : FVec F S256x256 .f32 := broadcastInDim S256x256 ![] bcast_S_S256x256 main_cst_17
  let main_v71 : IVec S256x256 1 := cmpf .olt main_v69 main_v70
  let main_v72 : FVec F S4x1x512x8 .f32 := (extractStridedSlice S4x1x512x8 ![0, 0, 0, 0] · slices_S4x1x512x9_S4x1x512x8_0_0_0_0) main_values
  let main_v73 : FVec F S4x1x512x8 .f32 := (extractStridedSlice S4x1x512x8 ![0, 0, 0, 1] · slices_S4x1x512x9_S4x1x512x8_0_0_0_1) main_values
  let main_v74 : IVec S4x1x512x8 1 := cmpf .ogt main_v72 main_v73
  fn_part4 (F := F) main_values_7 main_values_13 main_v65 main_v68 main_v71 main_v74

def fn_part2 {F : FTy → Type} [FloatOps F] (main_arg2 : FVec F S256x256 .f32) (main_arg6 : FVec F S256x256 .f32) (main_arg7 : FVec F S256x256 .f32) (main_v5 : FVec F S4x1x1024x256 .f32) (main_v6 : FVec F S4x6x512x256 .f32) (main_v10 : FVec F S4x6x1536x256 .f32) (main_values : FVec F S4x1x512x9 .f32) (main_v35 : FVec F S4x1x512x256 .f32) (main_v38 : FVec F S4x1x1024x1 .f32) : IVec S256x256 1 × IVec S1x256 1 × IVec S256x256 1 × IVec S4x1x512x8 1 × IVec S4x1x512x8 1 × IVec S4x6x512x8 1 :=
  let main_v39 : FVec F S4x1x1024x1 .f32 := Host.sqrt main_v38
  let main_cst_6 : FVec F S_ .f32 := constant S_ .f32 0x2B8CBCCC#32
  let main_v40 : FVec F S4x1x1024x1 .f32 := broadcastInDim S4x1x1024x1 ![] bcast_S_S4x1x1024x1 main_cst_6
  let main_v41 : FVec F S4x1x1024x1 .f32 := maximumf main_v39 main_v40
  let main_v42 : FVec F S4x1x1024x256 .f32 := broadcastInDim S4x1x1024x256 ![0, 1, 2, 3] bcast_S4x1x1024x1_S4x1x1024x256_0_1_2_3 main_v41
  let main_v43 : FVec F S4x1x1024x256 .f32 := Host.divf main_v5 main_v42
  let main_v44 : FVec F S4x1x512x1024 .f32 := (fun l r => Host.dotGeneral dot_S4x1x512x256_S4x1x1024x256_S4x1x512x1024_3_3_2_2_01_01 none l r) main_v35 main_v43
  let main_values_7 : FVec F S4x1x512x9 .f32 := (fun x => (Host.topK S4x1x512x9 3 (FloatOps.cmpfTotal .gt) x sliceFits_S4x1x512x1024_S4x1x512x9).1) main_v44
  let main_indices_8 : IVec S4x1x512x9 32 := (fun x => (Host.topK S4x1x512x9 3 (FloatOps.cmpfTotal .gt) x sliceFits_S4x1x512x1024_S4x1x512x9).2) main_v44
  let main_v45 : FVec F S4x6x512x256 .f32 := mulf main_v6 main_v6
  let main_cst_9 : FVec F S_ .f32 := constant S_ .f32 0x00000000#32
  let main_v46 : FVec F S4x6x512 .f32 := (fun x v => Host.reduceAdd x v reducesTo_S4x6x512x256_S4x6x512_d3 h_S_) main_v45 main_cst_9
  let main_v47 : FVec F S4x6x512x1 .f32 := broadcastInDim S4x6x512x1 ![0, 1, 2] bcast_S4x6x512_S4x6x512x1_0_1_2 main_v46
  let main_v48 : FVec F S4x6x512x1 .f32 := Host.sqrt main_v47
  let main_cst_10 : FVec F S_ .f32 := constant S_ .f32 0x2B8CBCCC#32
  let main_v49 : FVec F S4x6x512x1 .f32 := broadcastInDim S4x6x512x1 ![] bcast_S_S4x6x512x1 main_cst_10
  let main_v50 : FVec F S4x6x512x1 .f32 := maximumf main_v48 main_v49
  let main_v51 : FVec F S4x6x512x256 .f32 := broadcastInDim S4x6x512x256 ![0, 1, 2, 3] bcast_S4x6x512x1_S4x6x512x256_0_1_2_3 main_v50
  let main_v52 : FVec F S4x6x512x256 .f32 := Host.divf main_v6 main_v51
  let main_v53 : FVec F S4x6x1536x256 .f32 := mulf main_v10 main_v10
  let main_cst_11 : FVec F S_ .f32 := constant S_ .f32 0x00000000#32
  let main_v54 : FVec F S4x6x1536 .f32 := (fun x v => Host.reduceAdd x v reducesTo_S4x6x1536x256_S4x6x1536_d3 h_S_) main_v53 main_cst_11
  let main_v55 : FVec F S4x6x1536x1 .f32 := broadcastInDim S4x6x1536x1 ![0, 1, 2] bcast_S4x6x1536_S4x6x1536x1_0_1_2 main_v54
  let main_v56 : FVec F S4x6x1536x1 .f32 := Host.sqrt main_v55
  fn_part3 (F := F) main_arg2 main_arg6 main_arg7 main_v10 main_values main_values_7 main_v52 main_v56

def fn_part1 {F : FTy → Type} [FloatOps F] (main_arg2 : FVec F S256x256 .f32) (main_arg6 : FVec F S256x256 .f32) (main_arg7 : FVec F S256x256 .f32) (main_v1 : FVec F S4x1x512x256 .f32) (main_v2 : FVec F S4x1x512x256 .f32) (main_v5 : FVec F S4x1x1024x256 .f32) (main_v6 : FVec F S4x6x512x256 .f32) (main_v10 : FVec F S4x6x1536x256 .f32) (main_v18 : FVec F S4x1x512x256 .f32) (main_v20 : FVec F S4x1x512 .f32) : IVec S256x256 1 × IVec S1x256 1 × IVec S256x256 1 × IVec S4x1x512x8 1 × IVec S4x1x512x8 1 × IVec S4x6x512x8 1 :=
  let main_v21 : FVec F S4x1x512x1 .f32 := broadcastInDim S4x1x512x1 ![0, 1, 2] bcast_S4x1x512_S4x1x512x1_0_1_2 main_v20
  let main_v22 : FVec F S4x1x512x1 .f32 := Host.sqrt main_v21
  let main_cst_2 : FVec F S_ .f32 := constant S_ .f32 0x2B8CBCCC#32
  let main_v23 : FVec F S4x1x512x1 .f32 := broadcastInDim S4x1x512x1 ![] bcast_S_S4x1x512x1 main_cst_2
  let main_v24 : FVec F S4x1x512x1 .f32 := maximumf main_v22 main_v23
  let main_v25 : FVec F S4x1x512x256 .f32 := broadcastInDim S4x1x512x256 ![0, 1, 2, 3] bcast_S4x1x512x1_S4x1x512x256_0_1_2_3 main_v24
  let main_v26 : FVec F S4x1x512x256 .f32 := Host.divf main_v1 main_v25
  let main_v27 : FVec F S4x1x512x512 .f32 := (fun l r => Host.dotGeneral dot_S4x1x512x256_S4x1x512x256_S4x1x512x512_3_3_2_2_01_01 none l r) main_v18 main_v26
  let main_values : FVec F S4x1x512x9 .f32 := (fun x => (Host.topK S4x1x512x9 3 (FloatOps.cmpfTotal .gt) x sliceFits_S4x1x512x512_S4x1x512x9).1) main_v27
  let main_indices : IVec S4x1x512x9 32 := (fun x => (Host.topK S4x1x512x9 3 (FloatOps.cmpfTotal .gt) x sliceFits_S4x1x512x512_S4x1x512x9).2) main_v27
  let main_v28 : FVec F S4x1x512x256 .f32 := mulf main_v2 main_v2
  let main_cst_3 : FVec F S_ .f32 := constant S_ .f32 0x00000000#32
  let main_v29 : FVec F S4x1x512 .f32 := (fun x v => Host.reduceAdd x v reducesTo_S4x1x512x256_S4x1x512_d3 h_S_) main_v28 main_cst_3
  let main_v30 : FVec F S4x1x512x1 .f32 := broadcastInDim S4x1x512x1 ![0, 1, 2] bcast_S4x1x512_S4x1x512x1_0_1_2 main_v29
  let main_v31 : FVec F S4x1x512x1 .f32 := Host.sqrt main_v30
  let main_cst_4 : FVec F S_ .f32 := constant S_ .f32 0x2B8CBCCC#32
  let main_v32 : FVec F S4x1x512x1 .f32 := broadcastInDim S4x1x512x1 ![] bcast_S_S4x1x512x1 main_cst_4
  let main_v33 : FVec F S4x1x512x1 .f32 := maximumf main_v31 main_v32
  let main_v34 : FVec F S4x1x512x256 .f32 := broadcastInDim S4x1x512x256 ![0, 1, 2, 3] bcast_S4x1x512x1_S4x1x512x256_0_1_2_3 main_v33
  let main_v35 : FVec F S4x1x512x256 .f32 := Host.divf main_v2 main_v34
  let main_v36 : FVec F S4x1x1024x256 .f32 := mulf main_v5 main_v5
  let main_cst_5 : FVec F S_ .f32 := constant S_ .f32 0x00000000#32
  let main_v37 : FVec F S4x1x1024 .f32 := (fun x v => Host.reduceAdd x v reducesTo_S4x1x1024x256_S4x1x1024_d3 h_S_) main_v36 main_cst_5
  let main_v38 : FVec F S4x1x1024x1 .f32 := broadcastInDim S4x1x1024x1 ![0, 1, 2] bcast_S4x1x1024_S4x1x1024x1_0_1_2 main_v37
  fn_part2 (F := F) main_arg2 main_arg6 main_arg7 main_v5 main_v6 main_v10 main_values main_v35 main_v38

def fn {F : FTy → Type} [FloatOps F] (main_arg0 : FVec F S4x8x512x256 .f32) (main_arg1 : FVec F S256x256 .f32) (main_arg2 : FVec F S256x256 .f32) (main_arg3 : FVec F S256x256 .f32) (main_arg4 : FVec F S256 .f32) (main_arg5 : FVec F S256 .f32) (main_arg6 : FVec F S256x256 .f32) (main_arg7 : FVec F S256x256 .f32) (main_arg8 : FVec F S768x256 .f32) (main_arg9 : FVec F S768x256 .f32) (main_arg10 : FVec F S768 .f32) (main_arg11 : FVec F S768 .f32) (main_arg12 : FVec F S256x256 .f32) (main_arg13 : FVec F S256 .f32) : IVec S256x256 1 × IVec S1x256 1 × IVec S256x256 1 × IVec S4x1x512x8 1 × IVec S4x1x512x8 1 × IVec S4x6x512x8 1 :=
  let main_v0 : FVec F S4x1x512x256 .f32 := (extractStridedSlice S4x1x512x256 ![0, 0, 0, 0] · slices_S4x8x512x256_S4x1x512x256_0_0_0_0) main_arg0
  let main_v1 : FVec F S4x1x512x256 .f32 := (extractStridedSlice S4x1x512x256 ![0, 0, 0, 0] · slices_S4x8x512x256_S4x1x512x256_0_0_0_0) main_arg0
  let main_v2 : FVec F S4x1x512x256 .f32 := (extractStridedSlice S4x1x512x256 ![0, 1, 0, 0] · slices_S4x8x512x256_S4x1x512x256_0_1_0_0) main_arg0
  let main_v3 : FVec F S4x1x512x256 .f32 := (extractStridedSlice S4x1x512x256 ![0, 1, 0, 0] · slices_S4x8x512x256_S4x1x512x256_0_1_0_0) main_arg0
  let main_v4 : FVec F S4x1x512x256 .f32 := (extractStridedSlice S4x1x512x256 ![0, 0, 0, 0] · slices_S4x8x512x256_S4x1x512x256_0_0_0_0) main_arg0
  let main_v5 : FVec F S4x1x1024x256 .f32 := (fun a b => concatenate S4x1x1024x256 2 [⟨S4x1x512x256, a⟩, ⟨S4x1x512x256, b⟩] concatenates_S4x1x512x256_S4x1x512x256_S4x1x1024x256_d2) main_v3 main_v4
  let main_v6 : FVec F S4x6x512x256 .f32 := (extractStridedSlice S4x6x512x256 ![0, 2, 0, 0] · slices_S4x8x512x256_S4x6x512x256_0_2_0_0) main_arg0
  let main_v7 : FVec F S4x6x512x256 .f32 := (extractStridedSlice S4x6x512x256 ![0, 2, 0, 0] · slices_S4x8x512x256_S4x6x512x256_0_2_0_0) main_arg0
  let main_v8 : FVec F S4x6x512x256 .f32 := (extractStridedSlice S4x6x512x256 ![0, 1, 0, 0] · slices_S4x8x512x256_S4x6x512x256_0_1_0_0) main_arg0
  let main_v9 : FVec F S4x6x512x256 .f32 := (extractStridedSlice S4x6x512x256 ![0, 0, 0, 0] · slices_S4x8x512x256_S4x6x512x256_0_0_0_0) main_arg0
  let main_v10 : FVec F S4x6x1536x256 .f32 := concatenate S4x6x1536x256 2 [⟨S4x6x512x256, main_v7⟩, ⟨S4x6x512x256, main_v8⟩, ⟨S4x6x512x256, main_v9⟩] concatenates_S4x6x512x256_S4x6x512x256_S4x6x512x256_S4x6x1536x256_d2
  let main_v11 : FVec F S4x1x512x256 .f32 := mulf main_v0 main_v0
  let main_cst : FVec F S_ .f32 := constant S_ .f32 0x00000000#32
  let main_v12 : FVec F S4x1x512 .f32 := (fun x v => Host.reduceAdd x v reducesTo_S4x1x512x256_S4x1x512_d3 h_S_) main_v11 main_cst
  let main_v13 : FVec F S4x1x512x1 .f32 := broadcastInDim S4x1x512x1 ![0, 1, 2] bcast_S4x1x512_S4x1x512x1_0_1_2 main_v12
  let main_v14 : FVec F S4x1x512x1 .f32 := Host.sqrt main_v13
  let main_cst_0 : FVec F S_ .f32 := constant S_ .f32 0x2B8CBCCC#32
  let main_v15 : FVec F S4x1x512x1 .f32 := broadcastInDim S4x1x512x1 ![] bcast_S_S4x1x512x1 main_cst_0
  let main_v16 : FVec F S4x1x512x1 .f32 := maximumf main_v14 main_v15
  let main_v17 : FVec F S4x1x512x256 .f32 := broadcastInDim S4x1x512x256 ![0, 1, 2, 3] bcast_S4x1x512x1_S4x1x512x256_0_1_2_3 main_v16
  let main_v18 : FVec F S4x1x512x256 .f32 := Host.divf main_v0 main_v17
  let main_v19 : FVec F S4x1x512x256 .f32 := mulf main_v1 main_v1
  let main_cst_1 : FVec F S_ .f32 := constant S_ .f32 0x00000000#32
  let main_v20 : FVec F S4x1x512 .f32 := (fun x v => Host.reduceAdd x v reducesTo_S4x1x512x256_S4x1x512_d3 h_S_) main_v19 main_cst_1
  fn_part1 (F := F) main_arg2 main_arg6 main_arg7 main_v1 main_v2 main_v5 main_v6 main_v10 main_v18 main_v20
-- ==== Kernel.lean ====
abbrev S4x8x512x256 : Shape := ⟨4, ![4, 8, 512, 256]⟩
abbrev S256x256 : Shape := ⟨2, ![256, 256]⟩
abbrev S256 : Shape := ⟨1, ![256]⟩
abbrev S768x256 : Shape := ⟨2, ![768, 256]⟩
abbrev S768 : Shape := ⟨1, ![768]⟩
abbrev S_ : Shape := ⟨0, ![]⟩
abbrev S4x8x512 : Shape := ⟨3, ![4, 8, 512]⟩
abbrev S4x8x512x1 : Shape := ⟨4, ![4, 8, 512, 1]⟩
abbrev S1x256 : Shape := ⟨2, ![1, 256]⟩
abbrev S1x768 : Shape := ⟨2, ![1, 768]⟩
abbrev S4x8x512x768 : Shape := ⟨4, ![4, 8, 512, 768]⟩
abbrev S1x8x512x256 : Shape := ⟨4, ![1, 8, 512, 256]⟩
abbrev S1x1x512x768 : Shape := ⟨4, ![1, 1, 512, 768]⟩
abbrev S1x1x512x256 : Shape := ⟨4, ![1, 1, 512, 256]⟩
abbrev S512x256 : Shape := ⟨2, ![512, 256]⟩
abbrev S1536x256 : Shape := ⟨2, ![1536, 256]⟩
abbrev S512x1536 : Shape := ⟨2, ![512, 1536]⟩
abbrev S256x1536 : Shape := ⟨2, ![256, 1536]⟩
abbrev S1536 : Shape := ⟨1, ![1536]⟩
abbrev S1x1536 : Shape := ⟨2, ![1, 1536]⟩
abbrev S512x768 : Shape := ⟨2, ![512, 768]⟩
abbrev S512 : Shape := ⟨1, ![512]⟩
abbrev S512x1 : Shape := ⟨2, ![512, 1]⟩
abbrev S1x1x256 : Shape := ⟨3, ![1, 1, 256]⟩
abbrev S1 : Shape := ⟨1, ![1]⟩
abbrev S1x1x1 : Shape := ⟨3, ![1, 1, 1]⟩
abbrev S4x512x256 : Shape := ⟨3, ![4, 512, 256]⟩
abbrev S4x1x512x768 : Shape := ⟨4, ![4, 1, 512, 768]⟩
abbrev S4x1x512x256 : Shape := ⟨4, ![4, 1, 512, 256]⟩
abbrev S2048x256 : Shape := ⟨2, ![2048, 256]⟩
abbrev S2048x768 : Shape := ⟨2, ![2048, 768]⟩

abbrev nBuf : Space → Nat
  | .hbm => 32
  | .vmem => 27
  | .smem => 0
  | _ => 0

abbrev bufTy : (tb : Table) → Fin (tcTables nBuf tb) → BufTy
  | .hbm, ⟨0, _⟩ => ⟨S4x8x512x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S768x256, .f32⟩
  | .hbm, ⟨9, _⟩ => ⟨S768x256, .f32⟩
  | .hbm, ⟨10, _⟩ => ⟨S768, .f32⟩
  | .hbm, ⟨11, _⟩ => ⟨S768, .f32⟩
  | .hbm, ⟨12, _⟩ => ⟨S256x256, .f32⟩
  | .hbm, ⟨13, _⟩ => ⟨S256, .f32⟩
  | .hbm, ⟨14, _⟩ => ⟨S4x8x512x256, .f32⟩
  | .hbm, ⟨15, _⟩ => ⟨S_, .f32⟩
  | .hbm, ⟨16, _⟩ => ⟨S4x8x512, .f32⟩
  | .hbm, ⟨17, _⟩ => ⟨S4x8x512x1, .f32⟩
  | .hbm, ⟨18, _⟩ => ⟨S4x8x512x1, .f32⟩
  | .hbm, ⟨19, _⟩ => ⟨S_, .f32⟩
  | .hbm, ⟨20, _⟩ => ⟨S4x8x512x1, .f32⟩
  | .hbm, ⟨21, _⟩ => ⟨S4x8x512x1, .f32⟩
  | .hbm, ⟨22, _⟩ => ⟨S4x8x512x256, .f32⟩
  | .hbm, ⟨23, _⟩ => ⟨S4x8x512x256, .f32⟩
  | .hbm, ⟨24, _⟩ => ⟨S1x256, .f32⟩
  | .hbm, ⟨25, _⟩ => ⟨S1x256, .f32⟩
  | .hbm, ⟨26, _⟩ => ⟨S1x768, .f32⟩
  | .hbm, ⟨27, _⟩ => ⟨S1x768, .f32⟩
  | .hbm, ⟨28, _⟩ => ⟨S1x256, .f32⟩
  | .hbm, ⟨29, _⟩ => ⟨S4x8x512x768, .bf16⟩
  | .hbm, ⟨30, _⟩ => ⟨S4x8x512x256, .f32⟩
  | .hbm, ⟨31, _⟩ => ⟨S4x512x256, .f32⟩
  | .local _ .vmem, ⟨0, _⟩ => ⟨S1x8x512x256, .f32⟩
  | .local _ .vmem, ⟨1, _⟩ => ⟨S1x8x512x256, .f32⟩
  | .local _ .vmem, ⟨2, _⟩ => ⟨S1x8x512x256, .f32⟩
  | .local _ .vmem, ⟨3, _⟩ => ⟨S1x8x512x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S256x256, .f32⟩
  | .local _ .vmem, ⟨10, _⟩ => ⟨S256x256, .f32⟩
  | .local _ .vmem, ⟨11, _⟩ => ⟨S768x256, .f32⟩
  | .local _ .vmem, ⟨12, _⟩ => ⟨S1x768, .f32⟩
  | .local _ .vmem, ⟨13, _⟩ => ⟨S1x1x512x768, .bf16⟩
  | .local _ .vmem, ⟨14, _⟩ => ⟨S1x1x512x768, .bf16⟩
  | .local _ .vmem, ⟨15, _⟩ => ⟨S4x1x512x768, .bf16⟩
  | .local _ .vmem, ⟨16, _⟩ => ⟨S4x1x512x768, .bf16⟩
  | .local _ .vmem, ⟨17, _⟩ => ⟨S4x1x512x256, .f32⟩
  | .local _ .vmem, ⟨18, _⟩ => ⟨S4x1x512x256, .f32⟩
  | .local _ .vmem, ⟨19, _⟩ => ⟨S768x256, .f32⟩
  | .local _ .vmem, ⟨20, _⟩ => ⟨S1x768, .f32⟩
  | .local _ .vmem, ⟨21, _⟩ => ⟨S256x256, .f32⟩
  | .local _ .vmem, ⟨22, _⟩ => ⟨S1x256, .f32⟩
  | .local _ .vmem, ⟨23, _⟩ => ⟨S4x1x512x256, .f32⟩
  | .local _ .vmem, ⟨24, _⟩ => ⟨S4x1x512x256, .f32⟩
  | .local _ .vmem, ⟨25, _⟩ => ⟨S4x512x256, .f32⟩
  | .local _ .vmem, ⟨26, _⟩ => ⟨S2048x256, .f32⟩
  | _, _ => ⟨S4x8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24
abbrev cc1_sem7_0 : DmaSem sig := 25

abbrev nD : Nat := 1
abbrev τ : Topo := Topo.v7x

variable {F : FTy → Type} [FloatOps F]

abbrev grid0 : Pipeline.Grid := ⟨2, ![4, 8], ![false, false]⟩

def k0_off1 (i : grid0.Coords) : Fin 4 → Nat :=
  let c0 : Index := 0#32
  let arg1 : BitVec 32 := BitVec.ofNat 32 (i 1).val
  let v4 : Index := Scalar.indexCast arg1
  let c0_1 : Index := 0#32
  let c0_2 : Index := 0#32
  ![0, v4.toNat, 0, 0]
def k0_off2 (i : grid0.Coords) (c1_i32 : BitVec 32) : Fin 4 → Nat :=
  let c0_3 : Index := 0#32
  let arg1 : BitVec 32 := BitVec.ofNat 32 (i 1).val
  let v0 : BitVec 32 := Scalar.subi arg1 c1_i32
  let c0_i32 : BitVec 32 := 0#32
  let v1 : BitVec 32 := Scalar.maxsi v0 c0_i32
  let v7 : Index := Scalar.indexCast v1
  let c0_4 : Index := 0#32
  let c0_5 : Index := 0#32
  ![0, v7.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S768x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1x512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S4x1x512x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x1x512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S768x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4x1x512x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S4x512x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== ReferenceIdeal.lean ====
abbrev S4x8x512x256 : Shape := ⟨4, ![4, 8, 512, 256]⟩
abbrev S256x256 : Shape := ⟨2, ![256, 256]⟩
abbrev S256 : Shape := ⟨1, ![256]⟩
abbrev S768x256 : Shape := ⟨2, ![768, 256]⟩
abbrev S768 : Shape := ⟨1, ![768]⟩
abbrev S4x1x512x256 : Shape := ⟨4, ![4, 1, 512, 256]⟩
abbrev S4x1x1024x256 : Shape := ⟨4, ![4, 1, 1024, 256]⟩
abbrev S4x6x512x256 : Shape := ⟨4, ![4, 6, 512, 256]⟩
abbrev S4x6x1536x256 : Shape := ⟨4, ![4, 6, 1536, 256]⟩
abbrev S_ : Shape := ⟨0, ![]⟩
abbrev S4x1x512 : Shape := ⟨3, ![4, 1, 512]⟩
abbrev S4x1x512x1 : Shape := ⟨4, ![4, 1, 512, 1]⟩
abbrev S4x1x512x512 : Shape := ⟨4, ![4, 1, 512, 512]⟩
abbrev S4x1x512x8 : Shape := ⟨4, ![4, 1, 512, 8]⟩
abbrev S4x1x512x8x1 : Shape := ⟨5, ![4, 1, 512, 8, 1]⟩
abbrev S4x1x512x8x256 : Shape := ⟨5, ![4, 1, 512, 8, 256]⟩
abbrev S4x1x1x256 : Shape := ⟨4, ![4, 1, 1, 256]⟩
abbrev S4x1x256 : Shape := ⟨3, ![4, 1, 256]⟩
abbrev S4x1x1 : Shape := ⟨3, ![4, 1, 1]⟩
abbrev S4x1 : Shape := ⟨2, ![4, 1]⟩
abbrev S4x1x1x1 : Shape := ⟨4, ![4, 1, 1, 1]⟩
abbrev S4x1x1024 : Shape := ⟨3, ![4, 1, 1024]⟩
abbrev S4x1x1024x1 : Shape := ⟨4, ![4, 1, 1024, 1]⟩
abbrev S4x1x512x1024 : Shape := ⟨4, ![4, 1, 512, 1024]⟩
abbrev S4x6x512 : Shape := ⟨3, ![4, 6, 512]⟩
abbrev S4x6x512x1 : Shape := ⟨4, ![4, 6, 512, 1]⟩
abbrev S4x6x1536 : Shape := ⟨3, ![4, 6, 1536]⟩
abbrev S4x6x1536x1 : Shape := ⟨4, ![4, 6, 1536, 1]⟩
abbrev S4x6x512x1536 : Shape := ⟨4, ![4, 6, 512, 1536]⟩
abbrev S4x6x512x8 : Shape := ⟨4, ![4, 6, 512, 8]⟩
abbrev S4x6x512x8x1 : Shape := ⟨5, ![4, 6, 512, 8, 1]⟩
abbrev S4x6x512x8x256 : Shape := ⟨5, ![4, 6, 512, 8, 256]⟩
abbrev S4x6x1x256 : Shape := ⟨4, ![4, 6, 1, 256]⟩
abbrev S4x6x256 : Shape := ⟨3, ![4, 6, 256]⟩
abbrev S4x6x1 : Shape := ⟨3, ![4, 6, 1]⟩
abbrev S4x6 : Shape := ⟨2, ![4, 6]⟩
abbrev S4x6x1x1 : Shape := ⟨4, ![4, 6, 1, 1]⟩
abbrev S4x8x512 : Shape := ⟨3, ![4, 8, 512]⟩
abbrev S4x8x512x1 : Shape := ⟨4, ![4, 8, 512, 1]⟩
abbrev S1x1x1x256 : Shape := ⟨4, ![1, 1, 1, 256]⟩
abbrev S256x768 : Shape := ⟨2, ![256, 768]⟩
abbrev S4x8x512x768 : Shape := ⟨4, ![4, 8, 512, 768]⟩
abbrev S1x1x1x768 : Shape := ⟨4, ![1, 1, 1, 768]⟩
abbrev S4x512x256 : Shape := ⟨3, ![4, 512, 256]⟩
abbrev S4x1x512x768 : Shape := ⟨4, ![4, 1, 512, 768]⟩
abbrev S4x512x768 : Shape := ⟨3, ![4, 512, 768]⟩
abbrev S1x1x768 : Shape := ⟨3, ![1, 1, 768]⟩

abbrev nBuf : Space → Nat
  | .hbm => 621
  | .vmem => 0
  | .smem => 0
  | _ => 0

abbrev hbmTy0_0 (i : Nat) : BufTy := match i % 128 with
  | 0 => ⟨S4x8x512x256, .f32⟩
  | 1 => ⟨S256x256, .f32⟩
  | 2 => ⟨S256x256, .f32⟩
  | 3 => ⟨S256x256, .f32⟩
  | 4 => ⟨S256, .f32⟩
  | 5 => ⟨S256, .f32⟩
  | 6 => ⟨S256x256, .f32⟩
  | 7 => ⟨S256x256, .f32⟩
  | 8 => ⟨S768x256, .f32⟩
  | 9 => ⟨S768x256, .f32⟩
  | 10 => ⟨S768, .f32⟩
  | 11 => ⟨S768, .f32⟩
  | 12 => ⟨S256x256, .f32⟩
  | 13 => ⟨S256, .f32⟩
  | 14 => ⟨S4x1x512x256, .f32⟩
  | 15 => ⟨S4x1x512x256, .f32⟩
  | 16 => ⟨S4x1x512x256, .f32⟩
  | 17 => ⟨S4x1x512x256, .f32⟩
  | 18 => ⟨S4x1x512x256, .f32⟩
  | 19 => ⟨S4x1x1024x256, .f32⟩
  | 20 => ⟨S4x6x512x256, .f32⟩
  | 21 => ⟨S4x6x512x256, .f32⟩
  | 22 => ⟨S4x6x512x256, .f32⟩
  | 23 => ⟨S4x6x512x256, .f32⟩
  | 24 => ⟨S4x6x1536x256, .f32⟩
  | 25 => ⟨S4x1x512x256, .f32⟩
  | 26 => ⟨S_, .f32⟩
  | 27 => ⟨S4x1x512, .f32⟩
  | 28 => ⟨S4x1x512x1, .f32⟩
  | 29 => ⟨S4x1x512x1, .f32⟩
  | 30 => ⟨S_, .f32⟩
  | 31 => ⟨S4x1x512x1, .f32⟩
  | 32 => ⟨S4x1x512x1, .f32⟩
  | 33 => ⟨S4x1x512x256, .f32⟩
  | 34 => ⟨S4x1x512x256, .f32⟩
  | 35 => ⟨S4x1x512x256, .f32⟩
  | 36 => ⟨S_, .f32⟩
  | 37 => ⟨S4x1x512, .f32⟩
  | 38 => ⟨S4x1x512x1, .f32⟩
  | 39 => ⟨S4x1x512x1, .f32⟩
  | 40 => ⟨S_, .f32⟩
  | 41 => ⟨S4x1x512x1, .f32⟩
  | 42 => ⟨S4x1x512x1, .f32⟩
  | 43 => ⟨S4x1x512x256, .f32⟩
  | 44 => ⟨S4x1x512x256, .f32⟩
  | 45 => ⟨S4x1x512x512, .f32⟩
  | 46 => ⟨S4x1x512x8, .f32⟩
  | 47 => ⟨S4x1x512x8, .i32⟩
  | 48 => ⟨S_, .i32⟩
  | 49 => ⟨S4x1x512x8, .i32⟩
  | 50 => ⟨S4x1x512x8, .i1⟩
  | 51 => ⟨S_, .i32⟩
  | 52 => ⟨S4x1x512x8, .i32⟩
  | 53 => ⟨S4x1x512x8, .i32⟩
  | 54 => ⟨S4x1x512x8, .i32⟩
  | 55 => ⟨S4x1x512x8x1, .i32⟩
  | 56 => ⟨S4x1x512x8x256, .f32⟩
  | 57 => ⟨S4x1x1x256, .f32⟩
  | 58 => ⟨S4x1x256, .f32⟩
  | 59 => ⟨S256x256, .f32⟩
  | 60 => ⟨S4x1x256, .f32⟩
  | 61 => ⟨S4x1x1, .f32⟩
  | 62 => ⟨S4x1, .f32⟩
  | 63 => ⟨S256x256, .f32⟩
  | 64 => ⟨S4x1x512x8x256, .f32⟩
  | 65 => ⟨S4x1x1x1, .f32⟩
  | 66 => ⟨S_, .f32⟩
  | 67 => ⟨S4x1x512x8, .f32⟩
  | 68 => ⟨S4x1x512x8, .f32⟩
  | 69 => ⟨S4x1x512x8, .f32⟩
  | 70 => ⟨S_, .f32⟩
  | 71 => ⟨S4x1x512, .f32⟩
  | 72 => ⟨S_, .f32⟩
  | 73 => ⟨S4x1x512, .f32⟩
  | 74 => ⟨S4x1x512, .f32⟩
  | 75 => ⟨S4x1x512x1, .f32⟩
  | 76 => ⟨S4x1x512x8, .f32⟩
  | 77 => ⟨S4x1x512x8, .f32⟩
  | 78 => ⟨S4x1x512x8, .f32⟩
  | 79 => ⟨S_, .f32⟩
  | 80 => ⟨S4x1x512, .f32⟩
  | 81 => ⟨S4x1x512x1, .f32⟩
  | 82 => ⟨S4x1x512x8, .f32⟩
  | 83 => ⟨S4x1x512x8, .f32⟩
  | 84 => ⟨S_, .f32⟩
  | 85 => ⟨S4x1x512x8, .f32⟩
  | 86 => ⟨S4x1x512x8, .f32⟩
  | 87 => ⟨S_, .f32⟩
  | 88 => ⟨S4x1x512x8, .f32⟩
  | 89 => ⟨S4x1x512x8, .f32⟩
  | 90 => ⟨S4x1x512x8, .f32⟩
  | 91 => ⟨S4x1x512x8x1, .f32⟩
  | 92 => ⟨S256x256, .f32⟩
  | 93 => ⟨S4x1x512x8x256, .f32⟩
  | 94 => ⟨S4x1x512x8x256, .f32⟩
  | 95 => ⟨S4x1x512x8x256, .f32⟩
  | 96 => ⟨S_, .f32⟩
  | 97 => ⟨S4x1x512x256, .f32⟩
  | 98 => ⟨S4x1x512x256, .f32⟩
  | 99 => ⟨S_, .f32⟩
  | 100 => ⟨S4x1x512, .f32⟩
  | 101 => ⟨S4x1x512x1, .f32⟩
  | 102 => ⟨S4x1x512x1, .f32⟩
  | 103 => ⟨S_, .f32⟩
  | 104 => ⟨S4x1x512x1, .f32⟩
  | 105 => ⟨S4x1x512x1, .f32⟩
  | 106 => ⟨S4x1x512x256, .f32⟩
  | 107 => ⟨S4x1x512x256, .f32⟩
  | 108 => ⟨S4x1x1024x256, .f32⟩
  | 109 => ⟨S_, .f32⟩
  | 110 => ⟨S4x1x1024, .f32⟩
  | 111 => ⟨S4x1x1024x1, .f32⟩
  | 112 => ⟨S4x1x1024x1, .f32⟩
  | 113 => ⟨S_, .f32⟩
  | 114 => ⟨S4x1x1024x1, .f32⟩
  | 115 => ⟨S4x1x1024x1, .f32⟩
  | 116 => ⟨S4x1x1024x256, .f32⟩
  | 117 => ⟨S4x1x1024x256, .f32⟩
  | 118 => ⟨S4x1x512x1024, .f32⟩
  | 119 => ⟨S4x1x512x8, .f32⟩
  | 120 => ⟨S4x1x512x8, .i32⟩
  | 121 => ⟨S_, .i32⟩
  | 122 => ⟨S4x1x512x8, .i32⟩
  | 123 => ⟨S4x1x512x8, .i1⟩
  | 124 => ⟨S_, .i32⟩
  | 125 => ⟨S4x1x512x8, .i32⟩
  | 126 => ⟨S4x1x512x8, .i32⟩
  | 127 => ⟨S4x1x512x8, .i32⟩
  | _ => ⟨S4x8x512x256, .f32⟩

abbrev hbmTy0_1 (i : Nat) : BufTy := match i % 128 with
  | 0 => ⟨S4x1x512x8x1, .i32⟩
  | 1 => ⟨S4x1x512x8x256, .f32⟩
  | 2 => ⟨S4x1x1x256, .f32⟩
  | 3 => ⟨S4x1x256, .f32⟩
  | 4 => ⟨S256x256, .f32⟩
  | 5 => ⟨S4x1x256, .f32⟩
  | 6 => ⟨S4x1x1, .f32⟩
  | 7 => ⟨S4x1, .f32⟩
  | 8 => ⟨S256x256, .f32⟩
  | 9 => ⟨S4x1x512x8x256, .f32⟩
  | 10 => ⟨S4x1x1x1, .f32⟩
  | 11 => ⟨S_, .f32⟩
  | 12 => ⟨S4x1x512x8, .f32⟩
  | 13 => ⟨S4x1x512x8, .f32⟩
  | 14 => ⟨S4x1x512x8, .f32⟩
  | 15 => ⟨S_, .f32⟩
  | 16 => ⟨S4x1x512, .f32⟩
  | 17 => ⟨S_, .f32⟩
  | 18 => ⟨S4x1x512, .f32⟩
  | 19 => ⟨S4x1x512, .f32⟩
  | 20 => ⟨S4x1x512x1, .f32⟩
  | 21 => ⟨S4x1x512x8, .f32⟩
  | 22 => ⟨S4x1x512x8, .f32⟩
  | 23 => ⟨S4x1x512x8, .f32⟩
  | 24 => ⟨S_, .f32⟩
  | 25 => ⟨S4x1x512, .f32⟩
  | 26 => ⟨S4x1x512x1, .f32⟩
  | 27 => ⟨S4x1x512x8, .f32⟩
  | 28 => ⟨S4x1x512x8, .f32⟩
  | 29 => ⟨S_, .f32⟩
  | 30 => ⟨S4x1x512x8, .f32⟩
  | 31 => ⟨S4x1x512x8, .f32⟩
  | 32 => ⟨S_, .f32⟩
  | 33 => ⟨S4x1x512x8, .f32⟩
  | 34 => ⟨S4x1x512x8, .f32⟩
  | 35 => ⟨S4x1x512x8, .f32⟩
  | 36 => ⟨S4x1x512x8x1, .f32⟩
  | 37 => ⟨S256x256, .f32⟩
  | 38 => ⟨S4x1x512x8x256, .f32⟩
  | 39 => ⟨S4x1x512x8x256, .f32⟩
  | 40 => ⟨S4x1x512x8x256, .f32⟩
  | 41 => ⟨S_, .f32⟩
  | 42 => ⟨S4x1x512x256, .f32⟩
  | 43 => ⟨S4x6x512x256, .f32⟩
  | 44 => ⟨S_, .f32⟩
  | 45 => ⟨S4x6x512, .f32⟩
  | 46 => ⟨S4x6x512x1, .f32⟩
  | 47 => ⟨S4x6x512x1, .f32⟩
  | 48 => ⟨S_, .f32⟩
  | 49 => ⟨S4x6x512x1, .f32⟩
  | 50 => ⟨S4x6x512x1, .f32⟩
  | 51 => ⟨S4x6x512x256, .f32⟩
  | 52 => ⟨S4x6x512x256, .f32⟩
  | 53 => ⟨S4x6x1536x256, .f32⟩
  | 54 => ⟨S_, .f32⟩
  | 55 => ⟨S4x6x1536, .f32⟩
  | 56 => ⟨S4x6x1536x1, .f32⟩
  | 57 => ⟨S4x6x1536x1, .f32⟩
  | 58 => ⟨S_, .f32⟩
  | 59 => ⟨S4x6x1536x1, .f32⟩
  | 60 => ⟨S4x6x1536x1, .f32⟩
  | 61 => ⟨S4x6x1536x256, .f32⟩
  | 62 => ⟨S4x6x1536x256, .f32⟩
  | 63 => ⟨S4x6x512x1536, .f32⟩
  | 64 => ⟨S4x6x512x8, .f32⟩
  | 65 => ⟨S4x6x512x8, .i32⟩
  | 66 => ⟨S_, .i32⟩
  | 67 => ⟨S4x6x512x8, .i32⟩
  | 68 => ⟨S4x6x512x8, .i1⟩
  | 69 => ⟨S_, .i32⟩
  | 70 => ⟨S4x6x512x8, .i32⟩
  | 71 => ⟨S4x6x512x8, .i32⟩
  | 72 => ⟨S4x6x512x8, .i32⟩
  | 73 => ⟨S4x6x512x8x1, .i32⟩
  | 74 => ⟨S4x6x512x8x256, .f32⟩
  | 75 => ⟨S4x6x1x256, .f32⟩
  | 76 => ⟨S4x6x256, .f32⟩
  | 77 => ⟨S256x256, .f32⟩
  | 78 => ⟨S4x6x256, .f32⟩
  | 79 => ⟨S4x6x1, .f32⟩
  | 80 => ⟨S4x6, .f32⟩
  | 81 => ⟨S256x256, .f32⟩
  | 82 => ⟨S4x6x512x8x256, .f32⟩
  | 83 => ⟨S4x6x1x1, .f32⟩
  | 84 => ⟨S_, .f32⟩
  | 85 => ⟨S4x6x512x8, .f32⟩
  | 86 => ⟨S4x6x512x8, .f32⟩
  | 87 => ⟨S4x6x512x8, .f32⟩
  | 88 => ⟨S_, .f32⟩
  | 89 => ⟨S4x6x512, .f32⟩
  | 90 => ⟨S_, .f32⟩
  | 91 => ⟨S4x6x512, .f32⟩
  | 92 => ⟨S4x6x512, .f32⟩
  | 93 => ⟨S4x6x512x1, .f32⟩
  | 94 => ⟨S4x6x512x8, .f32⟩
  | 95 => ⟨S4x6x512x8, .f32⟩
  | 96 => ⟨S4x6x512x8, .f32⟩
  | 97 => ⟨S_, .f32⟩
  | 98 => ⟨S4x6x512, .f32⟩
  | 99 => ⟨S4x6x512x1, .f32⟩
  | 100 => ⟨S4x6x512x8, .f32⟩
  | 101 => ⟨S4x6x512x8, .f32⟩
  | 102 => ⟨S_, .f32⟩
  | 103 => ⟨S4x6x512x8, .f32⟩
  | 104 => ⟨S4x6x512x8, .f32⟩
  | 105 => ⟨S_, .f32⟩
  | 106 => ⟨S4x6x512x8, .f32⟩
  | 107 => ⟨S4x6x512x8, .f32⟩
  | 108 => ⟨S4x6x512x8, .f32⟩
  | 109 => ⟨S4x6x512x8x1, .f32⟩
  | 110 => ⟨S256x256, .f32⟩
  | 111 => ⟨S4x6x512x8x256, .f32⟩
  | 112 => ⟨S4x6x512x8x256, .f32⟩
  | 113 => ⟨S4x6x512x8x256, .f32⟩
  | 114 => ⟨S_, .f32⟩
  | 115 => ⟨S4x6x512x256, .f32⟩
  | 116 => ⟨S4x8x512x256, .f32⟩
  | 117 => ⟨S256x256, .f32⟩
  | 118 => ⟨S4x8x512x256, .f32⟩
  | 119 => ⟨S4x8x512x256, .f32⟩
  | 120 => ⟨S_, .f32⟩
  | 121 => ⟨S4x8x512, .f32⟩
  | 122 => ⟨S4x8x512x1, .f32⟩
  | 123 => ⟨S_, .f32⟩
  | 124 => ⟨S4x8x512x1, .f32⟩
  | 125 => ⟨S4x8x512x1, .f32⟩
  | 126 => ⟨S4x8x512x256, .f32⟩
  | 127 => ⟨S4x8x512x256, .f32⟩
  | _ => ⟨S4x8x512x256, .f32⟩

abbrev hbmTy0_2 (i : Nat) : BufTy := match i % 128 with
  | 0 => ⟨S4x8x512x256, .f32⟩
  | 1 => ⟨S_, .f32⟩
  | 2 => ⟨S4x8x512, .f32⟩
  | 3 => ⟨S4x8x512x1, .f32⟩
  | 4 => ⟨S_, .f32⟩
  | 5 => ⟨S4x8x512x1, .f32⟩
  | 6 => ⟨S4x8x512x1, .f32⟩
  | 7 => ⟨S4x8x512x256, .f32⟩
  | 8 => ⟨S4x8x512x256, .f32⟩
  | 9 => ⟨S_, .f32⟩
  | 10 => ⟨S4x8x512x1, .f32⟩
  | 11 => ⟨S4x8x512x1, .f32⟩
  | 12 => ⟨S4x8x512x1, .f32⟩
  | 13 => ⟨S4x8x512x256, .f32⟩
  | 14 => ⟨S4x8x512x256, .f32⟩
  | 15 => ⟨S1x1x1x256, .f32⟩
  | 16 => ⟨S4x8x512x256, .f32⟩
  | 17 => ⟨S4x8x512x256, .f32⟩
  | 18 => ⟨S1x1x1x256, .f32⟩
  | 19 => ⟨S4x8x512x256, .f32⟩
  | 20 => ⟨S4x8x512x256, .f32⟩
  | 21 => ⟨S256x256, .f32⟩
  | 22 => ⟨S4x8x512x256, .f32⟩
  | 23 => ⟨S256x768, .f32⟩
  | 24 => ⟨S4x8x512x768, .f32⟩
  | 25 => ⟨S1x1x1x768, .f32⟩
  | 26 => ⟨S4x8x512x768, .f32⟩
  | 27 => ⟨S4x8x512x768, .f32⟩
  | 28 => ⟨S_, .f32⟩
  | 29 => ⟨S4x512x256, .f32⟩
  | 30 => ⟨S4x1x512x768, .f32⟩
  | 31 => ⟨S4x512x768, .f32⟩
  | 32 => ⟨S4x512x256, .f32⟩
  | 33 => ⟨S4x512x256, .f32⟩
  | 34 => ⟨S4x512x256, .f32⟩
  | 35 => ⟨S256x768, .f32⟩
  | 36 => ⟨S4x512x768, .f32⟩
  | 37 => ⟨S1x1x768, .f32⟩
  | 38 => ⟨S4x512x768, .f32⟩
  | 39 => ⟨S4x512x768, .f32⟩
  | 40 => ⟨S4x512x256, .f32⟩
  | 41 => ⟨S4x512x256, .f32⟩
  | 42 => ⟨S4x512x256, .f32⟩
  | 43 => ⟨S4x512x256, .f32⟩
  | 44 => ⟨S4x512x256, .f32⟩
  | 45 => ⟨S4x512x256, .f32⟩
  | 46 => ⟨S_, .f32⟩
  | 47 => ⟨S4x512x256, .f32⟩
  | 48 => ⟨S4x512x256, .f32⟩
  | 49 => ⟨S_, .f32⟩
  | 50 => ⟨S4x512x256, .f32⟩
  | 51 => ⟨S4x512x256, .f32⟩
  | 52 => ⟨S4x512x256, .f32⟩
  | 53 => ⟨S4x512x256, .f32⟩
  | 54 => ⟨S4x512x256, .f32⟩
  | 55 => ⟨S_, .f32⟩
  | 56 => ⟨S4x512x256, .f32⟩
  | 57 => ⟨S4x512x256, .f32⟩
  | 58 => ⟨S_, .f32⟩
  | 59 => ⟨S4x512x256, .f32⟩
  | 60 => ⟨S4x512x256, .f32⟩
  | 61 => ⟨S4x512x256, .f32⟩
  | 62 => ⟨S4x512x256, .f32⟩
  | 63 => ⟨S4x512x256, .f32⟩
  | 64 => ⟨S_, .f32⟩
  | 65 => ⟨S4x512x256, .f32⟩
  | 66 => ⟨S4x512x256, .f32⟩
  | 67 => ⟨S4x512x256, .f32⟩
  | 68 => ⟨S4x512x256, .f32⟩
  | 69 => ⟨S4x512x256, .f32⟩
  | 70 => ⟨S4x1x512x768, .f32⟩
  | 71 => ⟨S4x512x768, .f32⟩
  | 72 => ⟨S4x512x256, .f32⟩
  | 73 => ⟨S4x512x256, .f32⟩
  | 74 => ⟨S4x512x256, .f32⟩
  | 75 => ⟨S256x768, .f32⟩
  | 76 => ⟨S4x512x768, .f32⟩
  | 77 => ⟨S1x1x768, .f32⟩
  | 78 => ⟨S4x512x768, .f32⟩
  | 79 => ⟨S4x512x768, .f32⟩
  | 80 => ⟨S4x512x256, .f32⟩
  | 81 => ⟨S4x512x256, .f32⟩
  | 82 => ⟨S4x512x256, .f32⟩
  | 83 => ⟨S4x512x256, .f32⟩
  | 84 => ⟨S4x512x256, .f32⟩
  | 85 => ⟨S4x512x256, .f32⟩
  | 86 => ⟨S_, .f32⟩
  | 87 => ⟨S4x512x256, .f32⟩
  | 88 => ⟨S4x512x256, .f32⟩
  | 89 => ⟨S_, .f32⟩
  | 90 => ⟨S4x512x256, .f32⟩
  | 91 => ⟨S4x512x256, .f32⟩
  | 92 => ⟨S4x512x256, .f32⟩
  | 93 => ⟨S4x512x256, .f32⟩
  | 94 => ⟨S4x512x256, .f32⟩
  | 95 => ⟨S_, .f32⟩
  | 96 => ⟨S4x512x256, .f32⟩
  | 97 => ⟨S4x512x256, .f32⟩
  | 98 => ⟨S_, .f32⟩
  | 99 => ⟨S4x512x256, .f32⟩
  | 100 => ⟨S4x512x256, .f32⟩
  | 101 => ⟨S4x512x256, .f32⟩
  | 102 => ⟨S4x512x256, .f32⟩
  | 103 => ⟨S4x512x256, .f32⟩
  | 104 => ⟨S_, .f32⟩
  | 105 => ⟨S4x512x256, .f32⟩
  | 106 => ⟨S4x512x256, .f32⟩
  | 107 => ⟨S4x512x256, .f32⟩
  | 108 => ⟨S4x512x256, .f32⟩
  | 109 => ⟨S4x512x256, .f32⟩
  | 110 => ⟨S4x1x512x768, .f32⟩
  | 111 => ⟨S4x512x768, .f32⟩
  | 112 => ⟨S4x512x256, .f32⟩
  | 113 => ⟨S4x512x256, .f32⟩
  | 114 => ⟨S4x512x256, .f32⟩
  | 115 => ⟨S256x768, .f32⟩
  | 116 => ⟨S4x512x768, .f32⟩
  | 117 => ⟨S1x1x768, .f32⟩
  | 118 => ⟨S4x512x768, .f32⟩
  | 119 => ⟨S4x512x768, .f32⟩
  | 120 => ⟨S4x512x256, .f32⟩
  | 121 => ⟨S4x512x256, .f32⟩
  | 122 => ⟨S4x512x256, .f32⟩
  | 123 => ⟨S4x512x256, .f32⟩
  | 124 => ⟨S4x512x256, .f32⟩
  | 125 => ⟨S4x512x256, .f32⟩
  | 126 => ⟨S_, .f32⟩
  | 127 => ⟨S4x512x256, .f32⟩
  | _ => ⟨S4x8x512x256, .f32⟩

abbrev hbmTy0_3 (i : Nat) : BufTy := match i % 128 with
  | 0 => ⟨S4x512x256, .f32⟩
  | 1 => ⟨S_, .f32⟩
  | 2 => ⟨S4x512x256, .f32⟩
  | 3 => ⟨S4x512x256, .f32⟩
  | 4 => ⟨S4x512x256, .f32⟩
  | 5 => ⟨S4x512x256, .f32⟩
  | 6 => ⟨S4x512x256, .f32⟩
  | 7 => ⟨S_, .f32⟩
  | 8 => ⟨S4x512x256, .f32⟩
  | 9 => ⟨S4x512x256, .f32⟩
  | 10 => ⟨S_, .f32⟩
  | 11 => ⟨S4x512x256, .f32⟩
  | 12 => ⟨S4x512x256, .f32⟩
  | 13 => ⟨S4x512x256, .f32⟩
  | 14 => ⟨S4x512x256, .f32⟩
  | 15 => ⟨S4x512x256, .f32⟩
  | 16 => ⟨S_, .f32⟩
  | 17 => ⟨S4x512x256, .f32⟩
  | 18 => ⟨S4x512x256, .f32⟩
  | 19 => ⟨S4x512x256, .f32⟩
  | 20 => ⟨S4x512x256, .f32⟩
  | 21 => ⟨S4x512x256, .f32⟩
  | 22 => ⟨S4x1x512x768, .f32⟩
  | 23 => ⟨S4x512x768, .f32⟩
  | 24 => ⟨S4x512x256, .f32⟩
  | 25 => ⟨S4x512x256, .f32⟩
  | 26 => ⟨S4x512x256, .f32⟩
  | 27 => ⟨S256x768, .f32⟩
  | 28 => ⟨S4x512x768, .f32⟩
  | 29 => ⟨S1x1x768, .f32⟩
  | 30 => ⟨S4x512x768, .f32⟩
  | 31 => ⟨S4x512x768, .f32⟩
  | 32 => ⟨S4x512x256, .f32⟩
  | 33 => ⟨S4x512x256, .f32⟩
  | 34 => ⟨S4x512x256, .f32⟩
  | 35 => ⟨S4x512x256, .f32⟩
  | 36 => ⟨S4x512x256, .f32⟩
  | 37 => ⟨S4x512x256, .f32⟩
  | 38 => ⟨S_, .f32⟩
  | 39 => ⟨S4x512x256, .f32⟩
  | 40 => ⟨S4x512x256, .f32⟩
  | 41 => ⟨S_, .f32⟩
  | 42 => ⟨S4x512x256, .f32⟩
  | 43 => ⟨S4x512x256, .f32⟩
  | 44 => ⟨S4x512x256, .f32⟩
  | 45 => ⟨S4x512x256, .f32⟩
  | 46 => ⟨S4x512x256, .f32⟩
  | 47 => ⟨S_, .f32⟩
  | 48 => ⟨S4x512x256, .f32⟩
  | 49 => ⟨S4x512x256, .f32⟩
  | 50 => ⟨S_, .f32⟩
  | 51 => ⟨S4x512x256, .f32⟩
  | 52 => ⟨S4x512x256, .f32⟩
  | 53 => ⟨S4x512x256, .f32⟩
  | 54 => ⟨S4x512x256, .f32⟩
  | 55 => ⟨S4x512x256, .f32⟩
  | 56 => ⟨S_, .f32⟩
  | 57 => ⟨S4x512x256, .f32⟩
  | 58 => ⟨S4x512x256, .f32⟩
  | 59 => ⟨S4x512x256, .f32⟩
  | 60 => ⟨S4x512x256, .f32⟩
  | 61 => ⟨S4x512x256, .f32⟩
  | 62 => ⟨S4x1x512x768, .f32⟩
  | 63 => ⟨S4x512x768, .f32⟩
  | 64 => ⟨S4x512x256, .f32⟩
  | 65 => ⟨S4x512x256, .f32⟩
  | 66 => ⟨S4x512x256, .f32⟩
  | 67 => ⟨S256x768, .f32⟩
  | 68 => ⟨S4x512x768, .f32⟩
  | 69 => ⟨S1x1x768, .f32⟩
  | 70 => ⟨S4x512x768, .f32⟩
  | 71 => ⟨S4x512x768, .f32⟩
  | 72 => ⟨S4x512x256, .f32⟩
  | 73 => ⟨S4x512x256, .f32⟩
  | 74 => ⟨S4x512x256, .f32⟩
  | 75 => ⟨S4x512x256, .f32⟩
  | 76 => ⟨S4x512x256, .f32⟩
  | 77 => ⟨S4x512x256, .f32⟩
  | 78 => ⟨S_, .f32⟩
  | 79 => ⟨S4x512x256, .f32⟩
  | 80 => ⟨S4x512x256, .f32⟩
  | 81 => ⟨S_, .f32⟩
  | 82 => ⟨S4x512x256, .f32⟩
  | 83 => ⟨S4x512x256, .f32⟩
  | 84 => ⟨S4x512x256, .f32⟩
  | 85 => ⟨S4x512x256, .f32⟩
  | 86 => ⟨S4x512x256, .f32⟩
  | 87 => ⟨S_, .f32⟩
  | 88 => ⟨S4x512x256, .f32⟩
  | 89 => ⟨S4x512x256, .f32⟩
  | 90 => ⟨S_, .f32⟩
  | 91 => ⟨S4x512x256, .f32⟩
  | 92 => ⟨S4x512x256, .f32⟩
  | 93 => ⟨S4x512x256, .f32⟩
  | 94 => ⟨S4x512x256, .f32⟩
  | 95 => ⟨S4x512x256, .f32⟩
  | 96 => ⟨S_, .f32⟩
  | 97 => ⟨S4x512x256, .f32⟩
  | 98 => ⟨S4x512x256, .f32⟩
  | 99 => ⟨S4x512x256, .f32⟩
  | 100 => ⟨S4x512x256, .f32⟩
  | 101 => ⟨S4x512x256, .f32⟩
  | 102 => ⟨S4x1x512x768, .f32⟩
  | 103 => ⟨S4x512x768, .f32⟩
  | 104 => ⟨S4x512x256, .f32⟩
  | 105 => ⟨S4x512x256, .f32⟩
  | 106 => ⟨S4x512x256, .f32⟩
  | 107 => ⟨S256x768, .f32⟩
  | 108 => ⟨S4x512x768, .f32⟩
  | 109 => ⟨S1x1x768, .f32⟩
  | 110 => ⟨S4x512x768, .f32⟩
  | 111 => ⟨S4x512x768, .f32⟩
  | 112 => ⟨S4x512x256, .f32⟩
  | 113 => ⟨S4x512x256, .f32⟩
  | 114 => ⟨S4x512x256, .f32⟩
  | 115 => ⟨S4x512x256, .f32⟩
  | 116 => ⟨S4x512x256, .f32⟩
  | 117 => ⟨S4x512x256, .f32⟩
  | 118 => ⟨S_, .f32⟩
  | 119 => ⟨S4x512x256, .f32⟩
  | 120 => ⟨S4x512x256, .f32⟩
  | 121 => ⟨S_, .f32⟩
  | 122 => ⟨S4x512x256, .f32⟩
  | 123 => ⟨S4x512x256, .f32⟩
  | 124 => ⟨S4x512x256, .f32⟩
  | 125 => ⟨S4x512x256, .f32⟩
  | 126 => ⟨S4x512x256, .f32⟩
  | 127 => ⟨S_, .f32⟩
  | _ => ⟨S4x8x512x256, .f32⟩

abbrev hbmTy0_4 (i : Nat) : BufTy := match i % 128 with
  | 0 => ⟨S4x512x256, .f32⟩
  | 1 => ⟨S4x512x256, .f32⟩
  | 2 => ⟨S_, .f32⟩
  | 3 => ⟨S4x512x256, .f32⟩
  | 4 => ⟨S4x512x256, .f32⟩
  | 5 => ⟨S4x512x256, .f32⟩
  | 6 => ⟨S4x512x256, .f32⟩
  | 7 => ⟨S4x512x256, .f32⟩
  | 8 => ⟨S_, .f32⟩
  | 9 => ⟨S4x512x256, .f32⟩
  | 10 => ⟨S4x512x256, .f32⟩
  | 11 => ⟨S4x512x256, .f32⟩
  | 12 => ⟨S4x512x256, .f32⟩
  | 13 => ⟨S4x512x256, .f32⟩
  | 14 => ⟨S4x1x512x768, .f32⟩
  | 15 => ⟨S4x512x768, .f32⟩
  | 16 => ⟨S4x512x256, .f32⟩
  | 17 => ⟨S4x512x256, .f32⟩
  | 18 => ⟨S4x512x256, .f32⟩
  | 19 => ⟨S256x768, .f32⟩
  | 20 => ⟨S4x512x768, .f32⟩
  | 21 => ⟨S1x1x768, .f32⟩
  | 22 => ⟨S4x512x768, .f32⟩
  | 23 => ⟨S4x512x768, .f32⟩
  | 24 => ⟨S4x512x256, .f32⟩
  | 25 => ⟨S4x512x256, .f32⟩
  | 26 => ⟨S4x512x256, .f32⟩
  | 27 => ⟨S4x512x256, .f32⟩
  | 28 => ⟨S4x512x256, .f32⟩
  | 29 => ⟨S4x512x256, .f32⟩
  | 30 => ⟨S_, .f32⟩
  | 31 => ⟨S4x512x256, .f32⟩
  | 32 => ⟨S4x512x256, .f32⟩
  | 33 => ⟨S_, .f32⟩
  | 34 => ⟨S4x512x256, .f32⟩
  | 35 => ⟨S4x512x256, .f32⟩
  | 36 => ⟨S4x512x256, .f32⟩
  | 37 => ⟨S4x512x256, .f32⟩
  | 38 => ⟨S4x512x256, .f32⟩
  | 39 => ⟨S_, .f32⟩
  | 40 => ⟨S4x512x256, .f32⟩
  | 41 => ⟨S4x512x256, .f32⟩
  | 42 => ⟨S_, .f32⟩
  | 43 => ⟨S4x512x256, .f32⟩
  | 44 => ⟨S4x512x256, .f32⟩
  | 45 => ⟨S4x512x256, .f32⟩
  | 46 => ⟨S4x512x256, .f32⟩
  | 47 => ⟨S4x512x256, .f32⟩
  | 48 => ⟨S_, .f32⟩
  | 49 => ⟨S4x512x256, .f32⟩
  | 50 => ⟨S4x512x256, .f32⟩
  | 51 => ⟨S4x512x256, .f32⟩
  | 52 => ⟨S4x512x256, .f32⟩
  | 53 => ⟨S4x512x256, .f32⟩
  | 54 => ⟨S4x1x512x768, .f32⟩
  | 55 => ⟨S4x512x768, .f32⟩
  | 56 => ⟨S4x512x256, .f32⟩
  | 57 => ⟨S4x512x256, .f32⟩
  | 58 => ⟨S4x512x256, .f32⟩
  | 59 => ⟨S256x768, .f32⟩
  | 60 => ⟨S4x512x768, .f32⟩
  | 61 => ⟨S1x1x768, .f32⟩
  | 62 => ⟨S4x512x768, .f32⟩
  | 63 => ⟨S4x512x768, .f32⟩
  | 64 => ⟨S4x512x256, .f32⟩
  | 65 => ⟨S4x512x256, .f32⟩
  | 66 => ⟨S4x512x256, .f32⟩
  | 67 => ⟨S4x512x256, .f32⟩
  | 68 => ⟨S4x512x256, .f32⟩
  | 69 => ⟨S4x512x256, .f32⟩
  | 70 => ⟨S_, .f32⟩
  | 71 => ⟨S4x512x256, .f32⟩
  | 72 => ⟨S4x512x256, .f32⟩
  | 73 => ⟨S_, .f32⟩
  | 74 => ⟨S4x512x256, .f32⟩
  | 75 => ⟨S4x512x256, .f32⟩
  | 76 => ⟨S4x512x256, .f32⟩
  | 77 => ⟨S4x512x256, .f32⟩
  | 78 => ⟨S4x512x256, .f32⟩
  | 79 => ⟨S_, .f32⟩
  | 80 => ⟨S4x512x256, .f32⟩
  | 81 => ⟨S4x512x256, .f32⟩
  | 82 => ⟨S_, .f32⟩
  | 83 => ⟨S4x512x256, .f32⟩
  | 84 => ⟨S4x512x256, .f32⟩
  | 85 => ⟨S4x512x256, .f32⟩
  | 86 => ⟨S4x512x256, .f32⟩
  | 87 => ⟨S4x512x256, .f32⟩
  | 88 => ⟨S_, .f32⟩
  | 89 => ⟨S4x512x256, .f32⟩
  | 90 => ⟨S4x512x256, .f32⟩
  | 91 => ⟨S4x512x256, .f32⟩
  | 92 => ⟨S4x512x256, .f32⟩
  | 93 => ⟨S4x512x256, .f32⟩
  | 94 => ⟨S4x1x512x256, .f32⟩
  | 95 => ⟨S4x1x512x256, .f32⟩
  | 96 => ⟨S4x1x512x256, .f32⟩
  | 97 => ⟨S4x1x512x256, .f32⟩
  | 98 => ⟨S4x1x512x256, .f32⟩
  | 99 => ⟨S4x1x512x256, .f32⟩
  | 100 => ⟨S4x1x512x256, .f32⟩
  | 101 => ⟨S4x1x512x256, .f32⟩
  | 102 => ⟨S4x8x512x256, .f32⟩
  | 103 => ⟨S256x256, .f32⟩
  | 104 => ⟨S4x8x512x256, .f32⟩
  | 105 => ⟨S4x8x512x256, .f32⟩
  | 106 => ⟨S1x1x1x256, .f32⟩
  | 107 => ⟨S4x8x512x256, .f32⟩
  | 108 => ⟨S4x8x512x256, .f32⟩
  | _ => ⟨S4x8x512x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x8x512x256, .f32⟩

abbrev bufTy : (tb : Table) → Fin (tcTables nBuf tb) → BufTy
  | .hbm, ⟨i, _⟩ => hbmTy i
  | _, _ => ⟨S4x8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_values : Ref sig .tc := ⟨.hbm, 46, rfl⟩
abbrev main_indices : Ref sig .tc := ⟨.hbm, 47, rfl⟩
abbrev main_c : Ref sig .tc := ⟨.hbm, 48, rfl⟩
abbrev main_v28 : Ref sig .tc := ⟨.hbm, 49, rfl⟩
abbrev main_v29 : Ref sig .tc := ⟨.hbm, 50, rfl⟩
abbrev main_c_3 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_5 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_8 : Ref sig .tc := ⟨.hbm, 84, rfl⟩
abbrev main_v58 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_10 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_12 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_13 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_14 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_values_15 : Ref sig .tc := ⟨.hbm, 119, rfl⟩
abbrev main_indices_16 : Ref sig .tc := ⟨.hbm, 120, rfl⟩
abbrev main_c_17 : Ref sig .tc := ⟨.hbm, 121, rfl⟩
abbrev main_v86 : Ref sig .tc := ⟨.hbm, 122, rfl⟩
abbrev main_v87 : Ref sig .tc := ⟨.hbm, 123, rfl⟩
abbrev main_c_18 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_19 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_20 : Ref sig .tc := ⟨.hbm, 143, rfl⟩
abbrev main_v105 : Ref sig .tc := ⟨.hbm, 144, rfl⟩
abbrev main_cst_21 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_22 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_23 : Ref sig .tc := ⟨.hbm, 157, rfl⟩
abbrev main_v116 : Ref sig .tc := ⟨.hbm, 158, rfl⟩
abbrev main_v117 : Ref sig .tc := ⟨.hbm, 159, rfl⟩
abbrev main_cst_24 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_25 : Ref sig .tc := ⟨.hbm, 169, rfl⟩
abbrev main_v126 : Ref sig .tc := ⟨.hbm, 170, rfl⟩
abbrev main_v127 : Ref sig .tc := ⟨.hbm, 171, rfl⟩
abbrev main_cst_26 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_cst_27 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_28 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_cst_29 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_values_30 : Ref sig .tc := ⟨.hbm, 192, rfl⟩
abbrev main_indices_31 : Ref sig .tc := ⟨.hbm, 193, rfl⟩
abbrev main_c_32 : Ref sig .tc := ⟨.hbm, 194, rfl⟩
abbrev main_v144 : Ref sig .tc := ⟨.hbm, 195, rfl⟩
abbrev main_v145 : Ref sig .tc := ⟨.hbm, 196, rfl⟩
abbrev main_c_33 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_cst_34 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_cst_35 : Ref sig .tc := ⟨.hbm, 216, rfl⟩
abbrev main_v163 : Ref sig .tc := ⟨.hbm, 217, rfl⟩
abbrev main_cst_36 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_cst_37 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_cst_38 : Ref sig .tc := ⟨.hbm, 230, rfl⟩
abbrev main_v174 : Ref sig .tc := ⟨.hbm, 231, rfl⟩
abbrev main_v175 : Ref sig .tc := ⟨.hbm, 232, rfl⟩
abbrev main_cst_39 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_40 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_cst_41 : Ref sig .tc := ⟨.hbm, 248, rfl⟩
abbrev main_v189 : Ref sig .tc := ⟨.hbm, 249, rfl⟩
abbrev main_v190 : Ref sig .tc := ⟨.hbm, 250, rfl⟩
abbrev main_cst_42 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_cst_43 : Ref sig .tc := ⟨.hbm, 257, rfl⟩
abbrev main_v196 : Ref sig .tc := ⟨.hbm, 258, rfl⟩
abbrev main_v197 : Ref sig .tc := ⟨.hbm, 259, rfl⟩
abbrev main_cst_44 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_cst_45 : Ref sig .tc := ⟨.hbm, 265, rfl⟩
abbrev main_v202 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_v215 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_cst_46 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_v234 : Ref sig .tc := ⟨.hbm, 299, rfl⟩
abbrev main_v235 : Ref sig .tc := ⟨.hbm, 300, rfl⟩
abbrev main_v236 : Ref sig .tc := ⟨.hbm, 301, rfl⟩
abbrev main_cst_47 : Ref sig .tc := ⟨.hbm, 302, rfl⟩
abbrev main_v237 : Ref sig .tc := ⟨.hbm, 303, rfl⟩
abbrev main_v238 : Ref sig .tc := ⟨.hbm, 304, rfl⟩
abbrev main_cst_48 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_cst_49 : Ref sig .tc := ⟨.hbm, 311, rfl⟩
abbrev main_v244 : Ref sig .tc := ⟨.hbm, 312, rfl⟩
abbrev main_v245 : Ref sig .tc := ⟨.hbm, 313, rfl⟩
abbrev main_cst_50 : Ref sig .tc := ⟨.hbm, 314, rfl⟩
abbrev main_v246 : Ref sig .tc := ⟨.hbm, 315, rfl⟩
abbrev main_v247 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_cst_51 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_v259 : Ref sig .tc := ⟨.hbm, 329, rfl⟩
abbrev main_v260 : Ref sig .tc := ⟨.hbm, 330, rfl⟩
abbrev main_v261 : Ref sig .tc := ⟨.hbm, 331, rfl⟩
abbrev main_v262 : Ref sig .tc := ⟨.hbm, 332, rfl⟩
abbrev main_v263 : Ref sig .tc := ⟨.hbm, 333, rfl⟩
abbrev main_v264 : Ref sig .tc := ⟨.hbm, 334, rfl⟩
abbrev main_v265 : Ref sig .tc := ⟨.hbm, 335, rfl⟩
abbrev main_v266 : Ref sig .tc := ⟨.hbm, 336, rfl⟩
abbrev main_v267 : Ref sig .tc := ⟨.hbm, 337, rfl⟩
abbrev main_v268 : Ref sig .tc := ⟨.hbm, 338, rfl⟩
abbrev main_v269 : Ref sig .tc := ⟨.hbm, 339, rfl⟩
abbrev main_v270 : Ref sig .tc := ⟨.hbm, 340, rfl⟩
abbrev main_v271 : Ref sig .tc := ⟨.hbm, 341, rfl⟩
abbrev main_cst_52 : Ref sig .tc := ⟨.hbm, 342, rfl⟩
abbrev main_v272 : Ref sig .tc := ⟨.hbm, 343, rfl⟩
abbrev main_v273 : Ref sig .tc := ⟨.hbm, 344, rfl⟩
abbrev main_cst_53 : Ref sig .tc := ⟨.hbm, 345, rfl⟩
abbrev main_v274 : Ref sig .tc := ⟨.hbm, 346, rfl⟩
abbrev main_v275 : Ref sig .tc := ⟨.hbm, 347, rfl⟩
abbrev main_v276 : Ref sig .tc := ⟨.hbm, 348, rfl⟩
abbrev main_v277 : Ref sig .tc := ⟨.hbm, 349, rfl⟩
abbrev main_v278 : Ref sig .tc := ⟨.hbm, 350, rfl⟩
abbrev main_cst_54 : Ref sig .tc := ⟨.hbm, 351, rfl⟩
abbrev main_v279 : Ref sig .tc := ⟨.hbm, 352, rfl⟩
abbrev main_v280 : Ref sig .tc := ⟨.hbm, 353, rfl⟩
abbrev main_cst_55 : Ref sig .tc := ⟨.hbm, 354, rfl⟩
abbrev main_v281 : Ref sig .tc := ⟨.hbm, 355, rfl⟩
abbrev main_v282 : Ref sig .tc := ⟨.hbm, 356, rfl⟩
abbrev main_v283 : Ref sig .tc := ⟨.hbm, 357, rfl⟩
abbrev main_v284 : Ref sig .tc := ⟨.hbm, 358, rfl⟩
abbrev main_v285 : Ref sig .tc := ⟨.hbm, 359, rfl⟩
abbrev main_cst_56 : Ref sig .tc := ⟨.hbm, 360, rfl⟩
abbrev main_v286 : Ref sig .tc := ⟨.hbm, 361, rfl⟩
abbrev main_v287 : Ref sig .tc := ⟨.hbm, 362, rfl⟩
abbrev main_v288 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_v294 : Ref sig .tc := ⟨.hbm, 369, rfl⟩
abbrev main_v295 : Ref sig .tc := ⟨.hbm, 370, rfl⟩
abbrev main_v296 : Ref sig .tc := ⟨.hbm, 371, rfl⟩
abbrev main_v297 : Ref sig .tc := ⟨.hbm, 372, rfl⟩
abbrev main_v298 : Ref sig .tc := ⟨.hbm, 373, rfl⟩
abbrev main_v299 : Ref sig .tc := ⟨.hbm, 374, rfl⟩
abbrev main_v300 : Ref sig .tc := ⟨.hbm, 375, rfl⟩
abbrev main_v301 : Ref sig .tc := ⟨.hbm, 376, rfl⟩
abbrev main_v302 : Ref sig .tc := ⟨.hbm, 377, rfl⟩
abbrev main_v303 : Ref sig .tc := ⟨.hbm, 378, rfl⟩
abbrev main_v304 : Ref sig .tc := ⟨.hbm, 379, rfl⟩
abbrev main_v305 : Ref sig .tc := ⟨.hbm, 380, rfl⟩
abbrev main_v306 : Ref sig .tc := ⟨.hbm, 381, rfl⟩
abbrev main_cst_57 : Ref sig .tc := ⟨.hbm, 382, rfl⟩
abbrev main_v307 : Ref sig .tc := ⟨.hbm, 383, rfl⟩
abbrev main_v308 : Ref sig .tc := ⟨.hbm, 384, rfl⟩
abbrev main_cst_58 : Ref sig .tc := ⟨.hbm, 385, rfl⟩
abbrev main_v309 : Ref sig .tc := ⟨.hbm, 386, rfl⟩
abbrev main_v310 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_cst_59 : Ref sig .tc := ⟨.hbm, 391, rfl⟩
abbrev main_v314 : Ref sig .tc := ⟨.hbm, 392, rfl⟩
abbrev main_v315 : Ref sig .tc := ⟨.hbm, 393, rfl⟩
abbrev main_cst_60 : Ref sig .tc := ⟨.hbm, 394, rfl⟩
abbrev main_v316 : Ref sig .tc := ⟨.hbm, 395, rfl⟩
abbrev main_v317 : Ref sig .tc := ⟨.hbm, 396, rfl⟩
abbrev main_v318 : Ref sig .tc := ⟨.hbm, 397, rfl⟩
abbrev main_v319 : Ref sig .tc := ⟨.hbm, 398, rfl⟩
abbrev main_v320 : Ref sig .tc := ⟨.hbm, 399, rfl⟩
abbrev main_cst_61 : Ref sig .tc := ⟨.hbm, 400, rfl⟩
abbrev main_v321 : Ref sig .tc := ⟨.hbm, 401, rfl⟩
abbrev main_v322 : Ref sig .tc := ⟨.hbm, 402, rfl⟩
abbrev main_v323 : Ref sig .tc := ⟨.hbm, 403, rfl⟩
abbrev main_v324 : Ref sig .tc := ⟨.hbm, 404, rfl⟩
abbrev main_v325 : Ref sig .tc := ⟨.hbm, 405, rfl⟩
abbrev main_v326 : Ref sig .tc := ⟨.hbm, 406, rfl⟩
abbrev main_v327 : Ref sig .tc := ⟨.hbm, 407, rfl⟩
abbrev main_v328 : Ref sig .tc := ⟨.hbm, 408, rfl⟩
abbrev main_v329 : Ref sig .tc := ⟨.hbm, 409, rfl⟩
abbrev main_v330 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_v334 : Ref sig .tc := ⟨.hbm, 414, rfl⟩
abbrev main_v335 : Ref sig .tc := ⟨.hbm, 415, rfl⟩
abbrev main_v336 : Ref sig .tc := ⟨.hbm, 416, rfl⟩
abbrev main_v337 : Ref sig .tc := ⟨.hbm, 417, rfl⟩
abbrev main_v338 : Ref sig .tc := ⟨.hbm, 418, rfl⟩
abbrev main_v339 : Ref sig .tc := ⟨.hbm, 419, rfl⟩
abbrev main_v340 : Ref sig .tc := ⟨.hbm, 420, rfl⟩
abbrev main_v341 : Ref sig .tc := ⟨.hbm, 421, rfl⟩
abbrev main_cst_62 : Ref sig .tc := ⟨.hbm, 422, rfl⟩
abbrev main_v342 : Ref sig .tc := ⟨.hbm, 423, rfl⟩
abbrev main_v343 : Ref sig .tc := ⟨.hbm, 424, rfl⟩
abbrev main_cst_63 : Ref sig .tc := ⟨.hbm, 425, rfl⟩
abbrev main_v344 : Ref sig .tc := ⟨.hbm, 426, rfl⟩
abbrev main_v345 : Ref sig .tc := ⟨.hbm, 427, rfl⟩
abbrev main_v346 : Ref sig .tc := ⟨.hbm, 428, rfl⟩
abbrev main_v347 : Ref sig .tc := ⟨.hbm, 429, rfl⟩
abbrev main_v348 : Ref sig .tc := ⟨.hbm, 430, rfl⟩
abbrev main_cst_64 : Ref sig .tc := ⟨.hbm, 431, rfl⟩
abbrev main_v349 : Ref sig .tc := ⟨.hbm, 432, rfl⟩
abbrev main_v350 : Ref sig .tc := ⟨.hbm, 433, rfl⟩
abbrev main_cst_65 : Ref sig .tc := ⟨.hbm, 434, rfl⟩
abbrev main_v351 : Ref sig .tc := ⟨.hbm, 435, rfl⟩
abbrev main_v352 : Ref sig .tc := ⟨.hbm, 436, rfl⟩
abbrev main_v353 : Ref sig .tc := ⟨.hbm, 437, rfl⟩
abbrev main_v354 : Ref sig .tc := ⟨.hbm, 438, rfl⟩
abbrev main_v355 : Ref sig .tc := ⟨.hbm, 439, rfl⟩
abbrev main_cst_66 : Ref sig .tc := ⟨.hbm, 440, rfl⟩
abbrev main_v356 : Ref sig .tc := ⟨.hbm, 441, rfl⟩
abbrev main_v357 : Ref sig .tc := ⟨.hbm, 442, rfl⟩
abbrev main_v358 : Ref sig .tc := ⟨.hbm, 443, rfl⟩
abbrev main_v359 : Ref sig .tc := ⟨.hbm, 444, rfl⟩
abbrev main_v360 : Ref sig .tc := ⟨.hbm, 445, rfl⟩
abbrev main_v361 : Ref sig .tc := ⟨.hbm, 446, rfl⟩
abbrev main_v362 : Ref sig .tc := ⟨.hbm, 447, rfl⟩
abbrev main_v363 : Ref sig .tc := ⟨.hbm, 448, rfl⟩
abbrev main_v364 : Ref sig .tc := ⟨.hbm, 449, rfl⟩
abbrev main_v365 : Ref sig .tc := ⟨.hbm, 450, rfl⟩
abbrev main_v366 : Ref sig .tc := ⟨.hbm, 451, rfl⟩
abbrev main_v367 : Ref sig .tc := ⟨.hbm, 452, rfl⟩
abbrev main_v368 : Ref sig .tc := ⟨.hbm, 453, rfl⟩
abbrev main_v369 : Ref sig .tc := ⟨.hbm, 454, rfl⟩
abbrev main_v370 : Ref sig .tc := ⟨.hbm, 455, rfl⟩
abbrev main_v371 : Ref sig .tc := ⟨.hbm, 456, rfl⟩
abbrev main_v372 : Ref sig .tc := ⟨.hbm, 457, rfl⟩
abbrev main_v373 : Ref sig .tc := ⟨.hbm, 458, rfl⟩
abbrev main_v374 : Ref sig .tc := ⟨.hbm, 459, rfl⟩
abbrev main_v375 : Ref sig .tc := ⟨.hbm, 460, rfl⟩
abbrev main_v376 : Ref sig .tc := ⟨.hbm, 461, rfl⟩
abbrev main_cst_67 : Ref sig .tc := ⟨.hbm, 462, rfl⟩
abbrev main_v377 : Ref sig .tc := ⟨.hbm, 463, rfl⟩
abbrev main_v378 : Ref sig .tc := ⟨.hbm, 464, rfl⟩
abbrev main_cst_68 : Ref sig .tc := ⟨.hbm, 465, rfl⟩
abbrev main_v379 : Ref sig .tc := ⟨.hbm, 466, rfl⟩
abbrev main_v380 : Ref sig .tc := ⟨.hbm, 467, rfl⟩
abbrev main_v381 : Ref sig .tc := ⟨.hbm, 468, rfl⟩
abbrev main_v382 : Ref sig .tc := ⟨.hbm, 469, rfl⟩
abbrev main_v383 : Ref sig .tc := ⟨.hbm, 470, rfl⟩
abbrev main_cst_69 : Ref sig .tc := ⟨.hbm, 471, rfl⟩
abbrev main_v384 : Ref sig .tc := ⟨.hbm, 472, rfl⟩
abbrev main_v385 : Ref sig .tc := ⟨.hbm, 473, rfl⟩
abbrev main_cst_70 : Ref sig .tc := ⟨.hbm, 474, rfl⟩
abbrev main_v386 : Ref sig .tc := ⟨.hbm, 475, rfl⟩
abbrev main_v387 : Ref sig .tc := ⟨.hbm, 476, rfl⟩
abbrev main_v388 : Ref sig .tc := ⟨.hbm, 477, rfl⟩
abbrev main_v389 : Ref sig .tc := ⟨.hbm, 478, rfl⟩
abbrev main_v390 : Ref sig .tc := ⟨.hbm, 479, rfl⟩
abbrev main_cst_71 : Ref sig .tc := ⟨.hbm, 480, rfl⟩
abbrev main_v391 : Ref sig .tc := ⟨.hbm, 481, rfl⟩
abbrev main_v392 : Ref sig .tc := ⟨.hbm, 482, rfl⟩
abbrev main_v393 : Ref sig .tc := ⟨.hbm, 483, rfl⟩
abbrev main_v394 : Ref sig .tc := ⟨.hbm, 484, rfl⟩
abbrev main_v395 : Ref sig .tc := ⟨.hbm, 485, rfl⟩
abbrev main_v396 : Ref sig .tc := ⟨.hbm, 486, rfl⟩
abbrev main_v397 : Ref sig .tc := ⟨.hbm, 487, rfl⟩
abbrev main_v398 : Ref sig .tc := ⟨.hbm, 488, rfl⟩
abbrev main_v399 : Ref sig .tc := ⟨.hbm, 489, rfl⟩
abbrev main_v400 : Ref sig .tc := ⟨.hbm, 490, rfl⟩
abbrev main_v401 : Ref sig .tc := ⟨.hbm, 491, rfl⟩
abbrev main_v402 : Ref sig .tc := ⟨.hbm, 492, rfl⟩
abbrev main_v403 : Ref sig .tc := ⟨.hbm, 493, rfl⟩
abbrev main_v404 : Ref sig .tc := ⟨.hbm, 494, rfl⟩
abbrev main_v405 : Ref sig .tc := ⟨.hbm, 495, rfl⟩
abbrev main_v406 : Ref sig .tc := ⟨.hbm, 496, rfl⟩
abbrev main_v407 : Ref sig .tc := ⟨.hbm, 497, rfl⟩
abbrev main_v408 : Ref sig .tc := ⟨.hbm, 498, rfl⟩
abbrev main_v409 : Ref sig .tc := ⟨.hbm, 499, rfl⟩
abbrev main_v410 : Ref sig .tc := ⟨.hbm, 500, rfl⟩
abbrev main_v411 : Ref sig .tc := ⟨.hbm, 501, rfl⟩
abbrev main_cst_72 : Ref sig .tc := ⟨.hbm, 502, rfl⟩
abbrev main_v412 : Ref sig .tc := ⟨.hbm, 503, rfl⟩
abbrev main_v413 : Ref sig .tc := ⟨.hbm, 504, rfl⟩
abbrev main_cst_73 : Ref sig .tc := ⟨.hbm, 505, rfl⟩
abbrev main_v414 : Ref sig .tc := ⟨.hbm, 506, rfl⟩
abbrev main_v415 : Ref sig .tc := ⟨.hbm, 507, rfl⟩
abbrev main_v416 : Ref sig .tc := ⟨.hbm, 508, rfl⟩
abbrev main_v417 : Ref sig .tc := ⟨.hbm, 509, rfl⟩
abbrev main_v418 : Ref sig .tc := ⟨.hbm, 510, rfl⟩
abbrev main_cst_74 : Ref sig .tc := ⟨.hbm, 511, rfl⟩
abbrev main_v419 : Ref sig .tc := ⟨.hbm, 512, rfl⟩
abbrev main_v420 : Ref sig .tc := ⟨.hbm, 513, rfl⟩
abbrev main_cst_75 : Ref sig .tc := ⟨.hbm, 514, rfl⟩
abbrev main_v421 : Ref sig .tc := ⟨.hbm, 515, rfl⟩
abbrev main_v422 : Ref sig .tc := ⟨.hbm, 516, rfl⟩
abbrev main_v423 : Ref sig .tc := ⟨.hbm, 517, rfl⟩
abbrev main_v424 : Ref sig .tc := ⟨.hbm, 518, rfl⟩
abbrev main_v425 : Ref sig .tc := ⟨.hbm, 519, rfl⟩
abbrev main_cst_76 : Ref sig .tc := ⟨.hbm, 520, rfl⟩
abbrev main_v426 : Ref sig .tc := ⟨.hbm, 521, rfl⟩
abbrev main_v427 : Ref sig .tc := ⟨.hbm, 522, rfl⟩
abbrev main_v428 : Ref sig .tc := ⟨.hbm, 523, rfl⟩
abbrev main_v429 : Ref sig .tc := ⟨.hbm, 524, rfl⟩
abbrev main_v430 : Ref sig .tc := ⟨.hbm, 525, rfl⟩
abbrev main_v431 : Ref sig .tc := ⟨.hbm, 526, rfl⟩
abbrev main_v432 : Ref sig .tc := ⟨.hbm, 527, rfl⟩
abbrev main_v433 : Ref sig .tc := ⟨.hbm, 528, rfl⟩
abbrev main_v434 : Ref sig .tc := ⟨.hbm, 529, rfl⟩
abbrev main_v435 : Ref sig .tc := ⟨.hbm, 530, rfl⟩
abbrev main_v436 : Ref sig .tc := ⟨.hbm, 531, rfl⟩
abbrev main_v437 : Ref sig .tc := ⟨.hbm, 532, rfl⟩
abbrev main_v438 : Ref sig .tc := ⟨.hbm, 533, rfl⟩
abbrev main_v439 : Ref sig .tc := ⟨.hbm, 534, rfl⟩
abbrev main_v440 : Ref sig .tc := ⟨.hbm, 535, rfl⟩
abbrev main_v441 : Ref sig .tc := ⟨.hbm, 536, rfl⟩
abbrev main_v442 : Ref sig .tc := ⟨.hbm, 537, rfl⟩
abbrev main_v443 : Ref sig .tc := ⟨.hbm, 538, rfl⟩
abbrev main_v444 : Ref sig .tc := ⟨.hbm, 539, rfl⟩
abbrev main_v445 : Ref sig .tc := ⟨.hbm, 540, rfl⟩
abbrev main_v446 : Ref sig .tc := ⟨.hbm, 541, rfl⟩
abbrev main_cst_77 : Ref sig .tc := ⟨.hbm, 542, rfl⟩
abbrev main_v447 : Ref sig .tc := ⟨.hbm, 543, rfl⟩
abbrev main_v448 : Ref sig .tc := ⟨.hbm, 544, rfl⟩
abbrev main_cst_78 : Ref sig .tc := ⟨.hbm, 545, rfl⟩
abbrev main_v449 : Ref sig .tc := ⟨.hbm, 546, rfl⟩
abbrev main_v450 : Ref sig .tc := ⟨.hbm, 547, rfl⟩
abbrev main_v451 : Ref sig .tc := ⟨.hbm, 548, rfl⟩
abbrev main_v452 : Ref sig .tc := ⟨.hbm, 549, rfl⟩
abbrev main_v453 : Ref sig .tc := ⟨.hbm, 550, rfl⟩
abbrev main_cst_79 : Ref sig .tc := ⟨.hbm, 551, rfl⟩
abbrev main_v454 : Ref sig .tc := ⟨.hbm, 552, rfl⟩
abbrev main_v455 : Ref sig .tc := ⟨.hbm, 553, rfl⟩
abbrev main_cst_80 : Ref sig .tc := ⟨.hbm, 554, rfl⟩
abbrev main_v456 : Ref sig .tc := ⟨.hbm, 555, rfl⟩
abbrev main_v457 : Ref sig .tc := ⟨.hbm, 556, rfl⟩
abbrev main_v458 : Ref sig .tc := ⟨.hbm, 557, rfl⟩
abbrev main_v459 : Ref sig .tc := ⟨.hbm, 558, rfl⟩
abbrev main_v460 : Ref sig .tc := ⟨.hbm, 559, rfl⟩
abbrev main_cst_81 : Ref sig .tc := ⟨.hbm, 560, rfl⟩
abbrev main_v461 : Ref sig .tc := ⟨.hbm, 561, rfl⟩
abbrev main_v462 : Ref sig .tc := ⟨.hbm, 562, rfl⟩
abbrev main_v463 : Ref sig .tc := ⟨.hbm, 563, rfl⟩
abbrev main_v464 : Ref sig .tc := ⟨.hbm, 564, rfl⟩
abbrev main_v465 : Ref sig .tc := ⟨.hbm, 565, rfl⟩
abbrev main_v466 : Ref sig .tc := ⟨.hbm, 566, rfl⟩
abbrev main_v467 : Ref sig .tc := ⟨.hbm, 567, rfl⟩
abbrev main_v468 : Ref sig .tc := ⟨.hbm, 568, rfl⟩
abbrev main_v469 : Ref sig .tc := ⟨.hbm, 569, rfl⟩
abbrev main_v470 : Ref sig .tc := ⟨.hbm, 570, rfl⟩
abbrev main_v471 : Ref sig .tc := ⟨.hbm, 571, rfl⟩
abbrev main_v472 : Ref sig .tc := ⟨.hbm, 572, rfl⟩
abbrev main_v473 : Ref sig .tc := ⟨.hbm, 573, rfl⟩
abbrev main_v474 : Ref sig .tc := ⟨.hbm, 574, rfl⟩
abbrev main_v475 : Ref sig .tc := ⟨.hbm, 575, rfl⟩
abbrev main_v476 : Ref sig .tc := ⟨.hbm, 576, rfl⟩
abbrev main_v477 : Ref sig .tc := ⟨.hbm, 577, rfl⟩
abbrev main_v478 : Ref sig .tc := ⟨.hbm, 578, rfl⟩
abbrev main_v479 : Ref sig .tc := ⟨.hbm, 579, rfl⟩
abbrev main_v480 : Ref sig .tc := ⟨.hbm, 580, rfl⟩
abbrev main_v481 : Ref sig .tc := ⟨.hbm, 581, rfl⟩
abbrev main_cst_82 : Ref sig .tc := ⟨.hbm, 582, rfl⟩
abbrev main_v482 : Ref sig .tc := ⟨.hbm, 583, rfl⟩
abbrev main_v483 : Ref sig .tc := ⟨.hbm, 584, rfl⟩
abbrev main_cst_83 : Ref sig .tc := ⟨.hbm, 585, rfl⟩
abbrev main_v484 : Ref sig .tc := ⟨.hbm, 586, rfl⟩
abbrev main_v485 : Ref sig .tc := ⟨.hbm, 587, rfl⟩
abbrev main_v486 : Ref sig .tc := ⟨.hbm, 588, rfl⟩
abbrev main_v487 : Ref sig .tc := ⟨.hbm, 589, rfl⟩
abbrev main_v488 : Ref sig .tc := ⟨.hbm, 590, rfl⟩
abbrev main_cst_84 : Ref sig .tc := ⟨.hbm, 591, rfl⟩
abbrev main_v489 : Ref sig .tc := ⟨.hbm, 592, rfl⟩
abbrev main_v490 : Ref sig .tc := ⟨.hbm, 593, rfl⟩
abbrev main_cst_85 : Ref sig .tc := ⟨.hbm, 594, rfl⟩
abbrev main_v491 : Ref sig .tc := ⟨.hbm, 595, rfl⟩
abbrev main_v492 : Ref sig .tc := ⟨.hbm, 596, rfl⟩
abbrev main_v493 : Ref sig .tc := ⟨.hbm, 597, rfl⟩
abbrev main_v494 : Ref sig .tc := ⟨.hbm, 598, rfl⟩
abbrev main_v495 : Ref sig .tc := ⟨.hbm, 599, rfl⟩
abbrev main_cst_86 : Ref sig .tc := ⟨.hbm, 600, rfl⟩
abbrev main_v496 : Ref sig .tc := ⟨.hbm, 601, rfl⟩
abbrev main_v497 : Ref sig .tc := ⟨.hbm, 602, rfl⟩
abbrev main_v498 : Ref sig .tc := ⟨.hbm, 603, rfl⟩
abbrev main_v499 : Ref sig .tc := ⟨.hbm, 604, rfl⟩
abbrev main_v500 : Ref sig .tc := ⟨.hbm, 605, rfl⟩
abbrev main_v501 : Ref sig .tc := ⟨.hbm, 606, rfl⟩
abbrev main_v502 : Ref sig .tc := ⟨.hbm, 607, rfl⟩
abbrev main_v503 : Ref sig .tc := ⟨.hbm, 608, rfl⟩
abbrev main_v504 : Ref sig .tc := ⟨.hbm, 609, rfl⟩
abbrev main_v505 : Ref sig .tc := ⟨.hbm, 610, rfl⟩
abbrev main_v506 : Ref sig .tc := ⟨.hbm, 611, rfl⟩
abbrev main_v507 : Ref sig .tc := ⟨.hbm, 612, rfl⟩
abbrev main_v508 : Ref sig .tc := ⟨.hbm, 613, rfl⟩
abbrev main_v509 : Ref sig .tc := ⟨.hbm, 614, rfl⟩
abbrev main_v510 : Ref sig .tc := ⟨.hbm, 615, rfl⟩
abbrev main_v511 : Ref sig .tc := ⟨.hbm, 616, rfl⟩
abbrev main_v512 : Ref sig .tc := ⟨.hbm, 617, rfl⟩
abbrev main_v513 : Ref sig .tc := ⟨.hbm, 618, rfl⟩
abbrev main_v514 : Ref sig .tc := ⟨.hbm, 619, rfl⟩
abbrev main_v515 : Ref sig .tc := ⟨.hbm, 620, rfl⟩

abbrev nD : Nat := 1
abbrev τ : Topo := Topo.v7x

variable {F : FTy → Type} [FloatOps F]
-- ==== Proof.KernelIdealGru.lean ====
/- The frame data of the second call (the recurrence over the frames) of the program `KernelIdeal`, for any contents its arrays have when
   it is entered: what each grid point leaves in the two output blocks and in the carried memory, and the body's triple at every
   grid point. The first point clears the memory, every later one reads what the one before left. -/
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Ring
public import Idealize.ShloMosaic.Lib.WordCmp
public import Idealize.ShloMosaic.Lib.Tactic
public import Idealize.ShloMosaic.Lib.Exec
public import Idealize.ShloMosaic.Lib.Pipeline.Kit

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Separating conjunction is associative, as an equation. -/
theorem sepAssoc (A B C : sProp 𝕄) : iprop((A ∗ B) ∗ C) = iprop(A ∗ B ∗ C) :=
  Idealize.SL.BI.equiv_iff.mp ⟨Idealize.SL.BI.sep_assoc, Idealize.SL.BI.sep_assoc'⟩

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond1_0, e0]
    word_cmp
   : ∀ t : Fin grid1.N, cond1_0 (grid1.coords t) ↔ t.val % 8 = 0)

abbrev VO1_6 : View sig .tc .vmem S4x1x512x256 .f32 := (Memref.whole cc1_stg6_0 : Memref sig .tc .vmem S4x1x512x256 .f32).view
abbrev VO1_7 : View sig .tc .vmem S4x512x256 .f32 := (Memref.whole cc1_stg7_0 : Memref sig .tc .vmem S4x512x256 .f32).view
abbrev ms1_0 (t : Fin cfg1.N) : Memref sig .tc .vmem S4x1x512x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x1x512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S768x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x768 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S4x1x512x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S4x512x256 .f32 := win1_7.stage (cfg1.slots t 7)
abbrev hs1_7 (t : Fin cfg1.N) : (ms1_7 t).IsWhole := hstage1_7 ((cfg1.slots t 7).cast nbuf1_7)
abbrev scM1_0 : Memref sig .tc .vmem S2048x256 .f32 := Memref.whole cc1_scratch0
abbrev VS1_0 : View sig .tc .vmem S2048x256 .f32 := scM1_0.view

/-- What rides along unopened: the other scoped buffers and the random-number register. -/
def Rest (c : Dev nD) : sProp 𝕄 :=
  iprop(Pipeline.scopedRestBut (Ix := Unit) (Name := ℕ) (U := UR sig nD τ) (Lvl := ℕ) (Val := Elt F) spec1 c [cc1_scratch0] ∗ ∃ r, prngReg c r)

theorem PhiA1_eq (c : Dev nD) :
    (Pipeline.ΦA spec1 c : sProp 𝕄)
      = iprop(iprop((∃ d, owns (c : Thread nD τ) scM1_0 fullShare d)) ∗ Rest c) := by
  unfold Pipeline.ΦA Rest
  rw [Pipeline.scopedRest_split_of_list spec1 c [cc1_scratch0] (by decide) (by decide)]
  refine (sepAssoc _ _ _).trans ?_
  simp only [scM1_0, owns_whole]; try rfl
section Runs

variable (c : Dev nD) (i : grid1.Coords)
  (arg1 : Memref sig .tc .vmem S4x1x512x768 .bf16) (harg1 : arg1.IsWhole)
  (arg2 : Memref sig .tc .vmem S4x1x512x256 .f32) (harg2 : arg2.IsWhole)
  (arg3 : Memref sig .tc .vmem S768x256 .f32) (harg3 : arg3.IsWhole)
  (arg4 : Memref sig .tc .vmem S1x768 .f32) (harg4 : arg4.IsWhole)
  (arg5 : Memref sig .tc .vmem S256x256 .f32) (harg5 : arg5.IsWhole)
  (arg6 : Memref sig .tc .vmem S1x256 .f32) (harg6 : arg6.IsWhole)
  (arg7 : Memref sig .tc .vmem S4x1x512x256 .f32) (harg7 : arg7.IsWhole)
  (arg8 : Memref sig .tc .vmem S4x512x256 .f32) (harg8 : arg8.IsWhole)
  (arg9 : Memref sig .tc .vmem S2048x256 .f32) (harg9 : arg9.IsWhole)

set_option maxHeartbeats 1000000 in
noncomputable def kernelRun1_A (hc0 : cond1_0 i)
    (x0 : Vec F S4x1x512x768 .bf16) (x1 : Vec F S4x1x512x256 .f32) (x2 : Vec F S768x256 .f32) (x3 : Vec F S1x768 .f32) (x4 : Vec F S256x256 .f32) (x5 : Vec F S1x256 .f32) :
    Σ' (L6 : List (View.Piece (Elt F) S4x1x512x256 .f32)), Σ' (L7 : List (View.Piece (Elt F) S4x512x256 .f32)), { LS0 : List (View.Piece (Elt F) S2048x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1__gru_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__gru_kernel_eq_skeleton]; unfold cc1__gru_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0
set_option maxHeartbeats 1000000 in
noncomputable def kernelRun1_B (hc0 : ¬cond1_0 i)
    (x0 : Vec F S4x1x512x768 .bf16) (x1 : Vec F S4x1x512x256 .f32) (x2 : Vec F S768x256 .f32) (x3 : Vec F S1x768 .f32) (x4 : Vec F S256x256 .f32) (x5 : Vec F S1x256 .f32) (xs0 : Vec F S2048x256 .f32) :
    Σ' (L6 : List (View.Piece (Elt F) S4x1x512x256 .f32)), Σ' (L7 : List (View.Piece (Elt F) S4x512x256 .f32)), { LS0 : List (View.Piece (Elt F) S2048x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1__gru_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc1__gru_kernel_eq_skeleton]; unfold cc1__gru_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

theorem cover1_A_6 (hc0 : cond1_0 i)
    (x0 : Vec F S4x1x512x768 .bf16) (x1 : Vec F S4x1x512x256 .f32) (x2 : Vec F S768x256 .f32) (x3 : Vec F S1x768 .f32) (x4 : Vec F S256x256 .f32) (x5 : Vec F S1x256 .f32) (y : S4x1x512x256.Idx) :
    ∃ pc ∈ (kernelRun1_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3 x4 x5).1 S4x1x512x256.size (by sl_kernel_rfl) y

def out1_A_6 (hc0 : cond1_0 i)
    (x0 : Vec F S4x1x512x768 .bf16) (x1 : Vec F S4x1x512x256 .f32) (x2 : Vec F S768x256 .f32) (x3 : Vec F S1x768 .f32) (x4 : Vec F S256x256 .f32) (x5 : Vec F S1x256 .f32) : Vec F S4x1x512x256 .f32 :=
  VO1_6.read (Elt F) (VO1_6.writes (Elt F) VO1_6.junk (kernelRun1_A c i arg1 harg1 arg2 harg2 arg3 harg3 arg4 harg4 arg5 harg5 arg6 harg6 arg7 harg7 arg8 harg8 arg9 harg9 hc0 x0 x1 x2 x3 x4 x5).1)

theorem cover1_A_7 (hc0 : cond1_0 i)
    (x0 : Vec F S4x1x512x768 .bf16) (x1 : Vec F S4x1x512x256 .f32) (x2 : Vec F S768x256 .f32) (x3 : Vec F S1x768 .f32) (x4 : Vec F S256x256 .f32) (x5 : Vec F S1x256 .f32) (y : S4x512x256.Idx) :
    ∃ pc ∈ (kernelRun1_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3 x4 x5).2.1 S4x512x256.size (by sl_kernel_rfl) y

def out1_A_7 (hc0 : cond1_0 i)
    (x0 : Vec F S4x1x512x768 .bf16) (x1 : Vec F S4x1x512x256 .f32) (x2 : Vec F S768x256 .f32) (x3 : Vec F S1x768 .f32) (x4 : Vec F S256x256 .f32) (x5 : Vec F S1x256 .f32) : Vec F S4x512x256 .f32 :=
  VO1_7.read (Elt F) (VO1_7.writes (Elt F) VO1_7.junk (kernelRun1_A c i arg1 harg1 arg2 harg2 arg3 harg3 arg4 harg4 arg5 harg5 arg6 harg6 arg7 harg7 arg8 harg8 arg9 harg9 hc0 x0 x1 x2 x3 x4 x5).2.1)

theorem scover1_A_0 (hc0 : cond1_0 i)
    (x0 : Vec F S4x1x512x768 .bf16) (x1 : Vec F S4x1x512x256 .f32) (x2 : Vec F S768x256 .f32) (x3 : Vec F S1x768 .f32) (x4 : Vec F S256x256 .f32) (x5 : Vec F S1x256 .f32) (y : S2048x256.Idx) :
    ∃ pc ∈ (kernelRun1_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_tiledL (kernelRun1_A c i arg1 harg1 arg2 harg2 arg3 harg3 arg4 harg4 arg5 harg5 arg6 harg6 arg7 harg7 arg8 harg8 arg9 harg9 hc0 x0 x1 x2 x3 x4 x5).2.2.1 S2048x256.size (by sl_kernel_rfl) y

def sout1_A_0 (hc0 : cond1_0 i)
    (x0 : Vec F S4x1x512x768 .bf16) (x1 : Vec F S4x1x512x256 .f32) (x2 : Vec F S768x256 .f32) (x3 : Vec F S1x768 .f32) (x4 : Vec F S256x256 .f32) (x5 : Vec F S1x256 .f32) : Vec F S2048x256 .f32 :=
  VS1_0.read (Elt F) (VS1_0.writes (Elt F) VS1_0.junk (kernelRun1_A c i arg1 harg1 arg2 harg2 arg3 harg3 arg4 harg4 arg5 harg5 arg6 harg6 arg7 harg7 arg8 harg8 arg9 harg9 hc0 x0 x1 x2 x3 x4 x5).2.2.1)

theorem cover1_B_6 (hc0 : ¬cond1_0 i)
    (x0 : Vec F S4x1x512x768 .bf16) (x1 : Vec F S4x1x512x256 .f32) (x2 : Vec F S768x256 .f32) (x3 : Vec F S1x768 .f32) (x4 : Vec F S256x256 .f32) (x5 : Vec F S1x256 .f32) (xs0 : Vec F S2048x256 .f32) (y : S4x1x512x256.Idx) :
    ∃ pc ∈ (kernelRun1_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 x4 x5 xs0).1 S4x1x512x256.size (by sl_kernel_rfl) y

def out1_B_6 (hc0 : ¬cond1_0 i)
    (x0 : Vec F S4x1x512x768 .bf16) (x1 : Vec F S4x1x512x256 .f32) (x2 : Vec F S768x256 .f32) (x3 : Vec F S1x768 .f32) (x4 : Vec F S256x256 .f32) (x5 : Vec F S1x256 .f32) (xs0 : Vec F S2048x256 .f32) : Vec F S4x1x512x256 .f32 :=
  VO1_6.read (Elt F) (VO1_6.writes (Elt F) VO1_6.junk (kernelRun1_B c i arg1 harg1 arg2 harg2 arg3 harg3 arg4 harg4 arg5 harg5 arg6 harg6 arg7 harg7 arg8 harg8 arg9 harg9 hc0 x0 x1 x2 x3 x4 x5 xs0).1)

theorem cover1_B_7 (hc0 : ¬cond1_0 i)
    (x0 : Vec F S4x1x512x768 .bf16) (x1 : Vec F S4x1x512x256 .f32) (x2 : Vec F S768x256 .f32) (x3 : Vec F S1x768 .f32) (x4 : Vec F S256x256 .f32) (x5 : Vec F S1x256 .f32) (xs0 : Vec F S2048x256 .f32) (y : S4x512x256.Idx) :
    ∃ pc ∈ (kernelRun1_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 x4 x5 xs0).2.1 S4x512x256.size (by sl_kernel_rfl) y

def out1_B_7 (hc0 : ¬cond1_0 i)
    (x0 : Vec F S4x1x512x768 .bf16) (x1 : Vec F S4x1x512x256 .f32) (x2 : Vec F S768x256 .f32) (x3 : Vec F S1x768 .f32) (x4 : Vec F S256x256 .f32) (x5 : Vec F S1x256 .f32) (xs0 : Vec F S2048x256 .f32) : Vec F S4x512x256 .f32 :=
  VO1_7.read (Elt F) (VO1_7.writes (Elt F) VO1_7.junk (kernelRun1_B c i arg1 harg1 arg2 harg2 arg3 harg3 arg4 harg4 arg5 harg5 arg6 harg6 arg7 harg7 arg8 harg8 arg9 harg9 hc0 x0 x1 x2 x3 x4 x5 xs0).2.1)

theorem scover1_B_0 (hc0 : ¬cond1_0 i)
    (x0 : Vec F S4x1x512x768 .bf16) (x1 : Vec F S4x1x512x256 .f32) (x2 : Vec F S768x256 .f32) (x3 : Vec F S1x768 .f32) (x4 : Vec F S256x256 .f32) (x5 : Vec F S1x256 .f32) (xs0 : Vec F S2048x256 .f32) (y : S2048x256.Idx) :
    ∃ pc ∈ (kernelRun1_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (kernelRun1_B c i arg1 harg1 arg2 harg2 arg3 harg3 arg4 harg4 arg5 harg5 arg6 harg6 arg7 harg7 arg8 harg8 arg9 harg9 hc0 x0 x1 x2 x3 x4 x5 xs0).2.2.1 S2048x256.size (by sl_kernel_rfl) y

def sout1_B_0 (hc0 : ¬cond1_0 i)
    (x0 : Vec F S4x1x512x768 .bf16) (x1 : Vec F S4x1x512x256 .f32) (x2 : Vec F S768x256 .f32) (x3 : Vec F S1x768 .f32) (x4 : Vec F S256x256 .f32) (x5 : Vec F S1x256 .f32) (xs0 : Vec F S2048x256 .f32) : Vec F S2048x256 .f32 :=
  VS1_0.read (Elt F) (VS1_0.writes (Elt F) VS1_0.junk (kernelRun1_B c i arg1 harg1 arg2 harg2 arg3 harg3 arg4 harg4 arg5 harg5 arg6 harg6 arg7 harg7 arg8 harg8 arg9 harg9 hc0 x0 x1 x2 x3 x4 x5 xs0).2.2.1)

end Runs

def outsAt1 (c : Dev nD) : (n : ℕ) → n < cfg1.N → Vec F S4x1x512x256 .f32 × Vec F S4x512x256 .f32 × Vec F S2048x256 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) scM1_0 (Memref.isWhole_whole _) ((hcond1_0 ⟨0, hn⟩).mpr (Nat.zero_mod _)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩))
  | n + 1, hn =>
    if h0 : (n + 1) % 8 = 0 then
      (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) ((hcond1_0 ⟨n + 1, hn⟩).mpr h0) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩))
    else
      (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) scM1_0 (Memref.isWhole_whole _) (fun h => h0 ((hcond1_0 ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (outsAt1 c n (Nat.lt_of_succ_lt hn)).2.2)

theorem outsAt1_A (c : Dev nD) (t : Fin cfg1.N) (h0 : t.val % 8 = 0) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk V c 0 t) (iblk V c 1 t) (iblk V c 2 t) (iblk V c 3 t) (iblk V c 4 t) (iblk V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk V c 0 t) (iblk V c 1 t) (iblk V c 2 t) (iblk V c 3 t) (iblk V c 4 t) (iblk V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) ((hcond1_0 t).mpr h0) (iblk V c 0 t) (iblk V c 1 t) (iblk V c 2 t) (iblk V c 3 t) (iblk V c 4 t) (iblk V c 5 t)) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk V c 0 t) (iblk V c 1 t) (iblk V c 2 t) (iblk V c 3 t) (iblk V c 4 t) (iblk V c 5 t) (outsAt1 V c (t.val - 1) (Nat.lt_of_le_of_lt (Nat.sub_le _ _) t.isLt)).2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk V c 0 t) (iblk V c 1 t) (iblk V c 2 t) (iblk V c 3 t) (iblk V c 4 t) (iblk V c 5 t) (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) (fun h => h0 ((hcond1_0 t).mp h)) (iblk V c 0 t) (iblk V c 1 t) (iblk V c 2 t) (iblk V c 3 t) (iblk V c 4 t) (iblk V c 5 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2.2)) ∗ Rest c)

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scM1_0 fullShare ((outsAt1 V c n hn).2.2)) ∗ Rest c) := rfl

theorem PhiS_pos (c : Dev nD) (n : ℕ) (h : n ≤ cfg1.N) (hz : n ≠ 0) :
    PhiS V c n h = iprop(iprop(owns (c : Thread nD τ) scM1_0 fullShare ((outsAt1 V c (n - 1) (by omega)).2.2)) ∗ Rest c) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => (outsAt1 V c t.val t.isLt).1
    | ⟨7, _⟩ => (outsAt1 V c t.val t.isLt).2.1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; exact Pipeline.Dat.Φ_castSucc (PhiS V c) t

theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = iblk V c 4 t := by dsimp only [dat]
theorem after1_5 (c : Dev nD) (t : Fin cfg1.N) : (dat V c).after 5 t = iblk V c 5 t := by dsimp only [dat]
theorem after1_6 (c : Dev nD) (t : Fin cfg1.N) : (dat V c).after 6 t = (outsAt1 V c t.val t.isLt).1 := by dsimp only [dat]
theorem after1_7 (c : Dev nD) (t : Fin cfg1.N) : (dat V c).after 7 t = (outsAt1 V c t.val t.isLt).2.1 := by dsimp only [dat]

theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d
theorem before1_4 (c : Dev nD) (t : Fin cfg1.N) (d) : (dat V c).before 4 t d = iblk V c 4 t :=
  before1_4_of V (dat V c) (A_eq V c 4) (after1_4 V c) t d
theorem before1_5 (c : Dev nD) (t : Fin cfg1.N) (d) : (dat V c).before 5 t d = iblk V c 5 t :=
  before1_5_of V (dat V c) (A_eq V c 5) (after1_5 V c) t d

def bodyPre (c : Dev nD) (t : Fin cfg1.N) : sProp 𝕄 :=
  iprop((dat V c).Φ t.castSucc ∗ (dat V c).owesAt () t.castSucc
    ∗ (∃ d, owns (c : Thread nD τ) (ms1_0 t) fullShare ((dat V c).before 0 t d))
    ∗ (∃ d, owns (c : Thread nD τ) (ms1_1 t) fullShare ((dat V c).before 1 t d))
    ∗ (∃ d, owns (c : Thread nD τ) (ms1_2 t) fullShare ((dat V c).before 2 t d))
    ∗ (∃ d, owns (c : Thread nD τ) (ms1_3 t) fullShare ((dat V c).before 3 t d))
    ∗ (∃ d, owns (c : Thread nD τ) (ms1_4 t) fullShare ((dat V c).before 4 t d))
    ∗ (∃ d, owns (c : Thread nD τ) (ms1_5 t) fullShare ((dat V c).before 5 t d))
    ∗ (∃ d, owns (c : Thread nD τ) (ms1_6 t) fullShare ((dat V c).before 6 t d))
    ∗ (∃ d, owns (c : Thread nD τ) (ms1_7 t) fullShare ((dat V c).before 7 t d)))

def bodyPost (c : Dev nD) (t : Fin cfg1.N) : sProp 𝕄 :=
  iprop((dat V c).Φ t.succ ∗ (dat V c).owesAt () t.succ
    ∗ owns (c : Thread nD τ) (ms1_0 t) fullShare ((dat V c).after 0 t)
    ∗ owns (c : Thread nD τ) (ms1_1 t) fullShare ((dat V c).after 1 t)
    ∗ owns (c : Thread nD τ) (ms1_2 t) fullShare ((dat V c).after 2 t)
    ∗ owns (c : Thread nD τ) (ms1_3 t) fullShare ((dat V c).after 3 t)
    ∗ owns (c : Thread nD τ) (ms1_4 t) fullShare ((dat V c).after 4 t)
    ∗ owns (c : Thread nD τ) (ms1_5 t) fullShare ((dat V c).after 5 t)
    ∗ owns (c : Thread nD τ) (ms1_6 t) fullShare ((dat V c).after 6 t)
    ∗ owns (c : Thread nD τ) (ms1_7 t) fullShare ((dat V c).after 7 t))

set_option maxHeartbeats 6400000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3, before1_4, before1_5]
  rw [show (dat V c).owesAt () t.succ = (dat V c).owesAt () t.castSucc from rfl,
    after1_0, after1_1, after1_2, after1_3, after1_4, after1_5, after1_6, after1_7]
  rw [show (dat V c).Φ t.succ = PhiS V c (t.val + 1) t.isLt from rfl, PhiS_succ]
  have hN : t.val < 8 := lt_of_lt_of_eq t.isLt (show cfg1.N = 8 from N_1)
  by_cases h0 : t.val % 8 = 0
  · by_cases hz : t.val = 0
    · rw [PhiS_castSucc V c t, PhiS_zero V c _ _ hz, PhiA1_eq]
      rw [outsAt1_A V c t h0]
      unfold out1_A_6 out1_A_7 sout1_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_A c (grid1.coords t) _ _ _ _ _ _ _ _ _ _ _ _ _ _ _ _ _ _ ((hcond1_0 t).mpr h0) (iblk V c 0 t) (iblk V c 1 t) (iblk V c 2 t) (iblk V c 3 t) (iblk V c 4 t) (iblk V c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover1_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_A_6 c _ _ _ _ _ _ _ _ _ _ _ _ _ _ _ _ _ _ _ _ _ _ _ _ _ _)
      unfold owns; iexists _; isplitr
      swap; · iexact H7
      ipureintro; exact View.read_writes_of_cover _ _ _ _ _ (cover1_A_7 c _ _ _ _ _ _ _ _ _ _ _ _ _ _ _ _ _ _ _ _ _ _ _ _ _ _)
    · exfalso; have hN : t.val < 8 := lt_of_lt_of_eq t.isLt (show cfg1.N = 8 from N_1); omega
  · by_cases hz : t.val = 0
    · exfalso; have hN : t.val < 8 := lt_of_lt_of_eq t.isLt (show cfg1.N = 8 from N_1); omega
    · rw [PhiS_castSucc V c t, PhiS_pos V c _ _ hz]
      rw [outsAt1_B V c t h0]
      unfold out1_B_6 out1_B_7 sout1_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) _ _ _ _ _ _ _ _ _ _ _ _ _ _ _ _ _ _ (fun h => h0 ((hcond1_0 t).mp h)) (iblk V c 0 t) (iblk V c 1 t) (iblk V c 2 t) (iblk V c 3 t) (iblk V c 4 t) (iblk V c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover1_B_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _)
      unfold owns; iexists _; isplitr
      swap; · iexact H7
      ipureintro; exact View.read_writes_of_cover _ _ _ _ _ (cover1_B_7 c _ _ _ _ _ _ _ _ _ _ _ _ _ _ _ _ _ _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat V c) (defs₀ (F := F)) Variants.none () Set.univ := fun t => by
  rw [bigSep_W1, bigSep_W1, defs₀_row]
  exact triple_restated (sound_body V c t) rfl .rfl fun _ => .rfl

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨HS0, Hg⟩
  isplitl [HS0]
  · iexists _; iexact HS0
  iexact Hg

theorem hout (c : Dev nD) : (dat V c).Φ (Fin.last cfg1.N) ⊢ Pipeline.ΦA spec1 c :=
  Phi_out V c _ (by rw [Fin.val_last]; have : cfg1.N = 8 := N_1; omega)

end Cert.KernelIdeal.Gru

end
-- ==== Proof.KernelIdealRun.lean ====
/- The run of the whole program `KernelIdeal`: its two calls one after the other. Every final state holds, in each buffer that outlives the
   calls, what the second call leaves over what the first one leaves over the host operations' results. -/
module

public import proofs.«01_k».proof.Proof.KernelIdealGru
public import proofs.«01_k».proof.Proof.Gen.Own.KernelIdeal.K0.Frame
public import Idealize.ShloMosaic.Lib.Pipeline.RegionArraysS

@[expose] public section

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion afterRegion_arr afterRegion_keeps)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev atTc (V : Dev nD → Valuation τ sig (Elt F)) (c : Dev nD) (b : Ref sig .tc) : Buf (Elt F) ((c : Thread nD τ).loc b) :=
  V c (Proc.devRef .tc b)

/-- The first call's data, entered at the host operations' results. -/
def datA (c : Dev nD) : Dat τ (Elt F) Unit ℕ (UR sig nD τ) ℕ cfg0 c := Own.K0.dat Variants.none (atTc (V1 m)) 0 c

/-- The buffers between the two calls. -/
def VA (c : Dev nD) : Valuation τ sig (Elt F) := afterRegion (datA m c) (V1 m c)

/-- The second call's data, entered at what the first one leaves. -/
def datB (c : Dev nD) : Dat τ (Elt F) Unit ℕ (UR sig nD τ) ℕ cfg1 c := Gru.dat (atTc (VA m)) c

/-- The buffers at the end. -/
def VB (c : Dev nD) : Valuation τ sig (Elt F) := afterRegion (datB m c) (VA m c)

/-- The two calls' data as one family. -/
def dats : (p : Fin 2) → (c : Dev nD) → Dat τ (Elt F) Unit ℕ (UR sig nD τ) ℕ (cfgs p) c
  | ⟨0, _⟩ => datA m
  | ⟨1, _⟩ => datB m

/-- Waits are on the TensorCores' own cells only. -/
def L : GSem nD τ sig → Finset Unit := fun g => if g.1.2 = .tc then {()} else ∅
/-- All at one level. -/
def lv : GSem nD τ sig → Unit → ℕ := fun _ _ => 0

theorem cut (p : Fin 2) : Pipeline.LevelCut (pcfgs (F := F)) adm () L lv p 0 (fun _ => 0) where
  hι _ _ _ := by rw [L, if_pos rfl]; exact Finset.mem_singleton_self _
  hιb _ _ _ := le_refl _
  hD _ _ _ h := absurd h (lt_irrefl _)

/-- What rides beside the buffers: the core owing nothing and the random-number register. -/
def Ride (c : Dev nD) : sProp 𝕄 :=
  iprop((∃ W, owes (c : Thread nD τ) (0 : CellTallies nD τ sig Unit) W) ∗ (∃ r, prngReg c r) ∗ emp)

set_option backward.isDefEq.respectTransparency.types false in
/-- The first call as a segment. -/
def segA : RegionSeg (pcfgs (F := F)) adm (dats m) () defs₀ Variants.none L lv 0 :=
  Pipeline.RegionSeg.ofHeldIn (pcfgs (F := F)) adm (dats m) () defs₀ Variants.none L lv 0 0 (Pipeline.ucRefs τ sig)
    (fun c => iprop(∃ r, prngReg c r)) (fun c => iprop(∃ r, prngReg c r)) launch0.toP rfl
    (fun c => (Own.K0.body_obligation (U := UR sig nD τ) (Lvl := ℕ) Variants.none (atTc (V1 m)) 0 () c).loose)
    (fun _ _ => rfl) (fun _ => rfl) (fun c => (datA m c).share_full fun _ => rfl) (fun _ => .rfl) (fun _ => .rfl)
    (fun _ => 0) (cut 0) (fun _ => iprop(emp)) (V1 m) (fun _ _ => rfl)

set_option backward.isDefEq.respectTransparency.types false in
/-- The second call as a segment. -/
def segB : RegionSeg (pcfgs (F := F)) adm (dats m) () defs₀ Variants.none L lv 1 :=
  Pipeline.RegionSeg.ofHeldIn (pcfgs (F := F)) adm (dats m) () defs₀ Variants.none L lv 1 0 (Pipeline.ucRefs τ sig)
    (fun c => iprop(∃ r, prngReg c r)) (fun c => iprop(∃ r, prngReg c r)) launch1.toP rfl
    (fun c => (Gru.body_obligation (atTc (VA m)) c).loose)
    (fun _ _ => rfl) (fun _ => rfl) (fun c => (datB m c).share_full fun _ => rfl)
    (fun c => Gru.hin (atTc (VA m)) c) (fun c => Gru.hout (atTc (VA m)) c)
    (fun _ => 0) (cut 1) (fun _ => iprop(emp)) (VA m) (fun _ _ => rfl)

theorem arrA_sub : Pipeline.arrRefs (τ := τ) spec0 ⊆ Pipeline.ucRefs τ sig := Pipeline.arrRefs_sub_ucRefs spec0 (by decide)
theorem arrB_sub : Pipeline.arrRefs (τ := τ) spec1 ⊆ Pipeline.ucRefs τ sig := Pipeline.arrRefs_sub_ucRefs spec1 (by decide)

set_option backward.isDefEq.respectTransparency.types false in
theorem segA_pre (c : Dev nD) :
    iprop(StableHlo.held (c : Thread nD τ) (Pipeline.ucRefs τ sig) (V1 m c) ∗ Ride c) ⊢ (segA m).pre c := by
  unfold segA Ride
  exact Pipeline.RegionSeg.ofHeldIn_pre (pcs := pcfgs (F := F)) (a := adm) (pdats := dats m) (ι := ()) (defs₀ := defs₀) (𝒱₀ := Variants.none)
    (L := L) (lv := lv) (p := 0) (D := 0) (S := Pipeline.ucRefs τ sig) (X := fun c => iprop(∃ r, prngReg c r)) (Y := fun c => iprop(∃ r, prngReg c r))
    (R := fun _ => iprop(emp)) (W := V1 m) (b := fun _ => 0) (hcut := cut 0) (kit := launch0.toP) arrA_sub c
set_option backward.isDefEq.respectTransparency.types false in
theorem segA_post (c : Dev nD) :
    (segA m).post c ⊢ iprop(StableHlo.held (c : Thread nD τ) (Pipeline.ucRefs τ sig) (VA m c) ∗ Ride c) := by
  unfold segA Ride
  exact Pipeline.RegionSeg.ofHeldIn_post (pcs := pcfgs (F := F)) (a := adm) (pdats := dats m) (ι := ()) (defs₀ := defs₀) (𝒱₀ := Variants.none)
    (L := L) (lv := lv) (p := 0) (D := 0) (S := Pipeline.ucRefs τ sig) (X := fun c => iprop(∃ r, prngReg c r)) (Y := fun c => iprop(∃ r, prngReg c r))
    (R := fun _ => iprop(emp)) (W := V1 m) (b := fun _ => 0) (hcut := cut 0) (kit := launch0.toP) arrA_sub c
set_option backward.isDefEq.respectTransparency.types false in
theorem segB_pre (c : Dev nD) :
    iprop(StableHlo.held (c : Thread nD τ) (Pipeline.ucRefs τ sig) (VA m c) ∗ Ride c) ⊢ (segB m).pre c := by
  unfold segB Ride
  exact Pipeline.RegionSeg.ofHeldIn_pre (pcs := pcfgs (F := F)) (a := adm) (pdats := dats m) (ι := ()) (defs₀ := defs₀) (𝒱₀ := Variants.none)
    (L := L) (lv := lv) (p := 1) (D := 0) (S := Pipeline.ucRefs τ sig) (X := fun c => iprop(∃ r, prngReg c r)) (Y := fun c => iprop(∃ r, prngReg c r))
    (R := fun _ => iprop(emp)) (W := VA m) (b := fun _ => 0) (hcut := cut 1) (kit := launch1.toP) arrB_sub c
set_option backward.isDefEq.respectTransparency.types false in
theorem segB_post (c : Dev nD) :
    (segB m).post c ⊢ iprop(StableHlo.held (c : Thread nD τ) (Pipeline.ucRefs τ sig) (VB m c) ∗ Ride c) := by
  unfold segB Ride
  exact Pipeline.RegionSeg.ofHeldIn_post (pcs := pcfgs (F := F)) (a := adm) (pdats := dats m) (ι := ()) (defs₀ := defs₀) (𝒱₀ := Variants.none)
    (L := L) (lv := lv) (p := 1) (D := 0) (S := Pipeline.ucRefs τ sig) (X := fun c => iprop(∃ r, prngReg c r)) (Y := fun c => iprop(∃ r, prngReg c r))
    (R := fun _ => iprop(emp)) (W := VA m) (b := fun _ => 0) (hcut := cut 1) (kit := launch1.toP) arrB_sub c

set_option backward.isDefEq.respectTransparency.types false in
/-- Every run ends, with every buffer that outlives the calls at `VB` and every semaphore at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c.tc : Thread nD τ).1, b) = VB m c b) ∧ r.2.sem = fun _ => 0) := by
  refine Pipeline.θ_run_regions_kit_dev_sems (pcfgs (F := F)) adm (dats m) () cellOf_inj emb₁ defs₀ Variants.none L lv m ρ main
    (segs m Variants.none L lv (fun _ => Ride) () (dats m) (segA m) (segB m))
    (fun c Q => by
      rewrite [main_chain c, Seg.run_eq_chain,
        show (segs m Variants.none L lv (fun _ => Ride) () (dats m) (segA m) (segB m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide)
    (O₀ := 0) (fun g hg => if_neg hg) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Ride c))
    (Tₙ := fun c => StableHlo.held (c : Thread nD τ) (Pipeline.ucRefs τ sig) (VB m c))
    (hch := fun c => ⟨.rfl, segA_pre m c, (segA_post m c).trans (segB_pre m c), (segB_post m c).trans ?_⟩)
    (hinit := ?_)
    (QY := fun c s => ∀ b ∈ Pipeline.ucRefs τ sig, s.mem ((c.tc : Thread nD τ).1, b) = VB m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · unfold Ride
    iintro ⟨Hh, HO, -⟩
    isplitl [Hh] <;> iassumption
  · refine Pipeline.initEach L lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    unfold Ride
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c.tc : Thread nD τ).1, b)) (VB m c) s') $$ [Hh HSI]
    · isplitl [Hh] <;> iassumption
    imodintro; iexact Hr

/-- A buffer neither call writes and no host operation writes ends as it was launched. -/
theorem VB_keeps (c : Dev nD) (r : Ref sig .tc) (hh : r ∉ hostOps0_W)
    (h0 : ∀ w, Pipeline.arrRef spec0 w = r → (cfg0.win w).isOut = false)
    (h1 : ∀ w, Pipeline.arrRef spec1 w = r → (cfg1.win w).isOut = false) :
    VB m c (Proc.devRef .tc r) = m ((c : Thread nD τ).loc r) :=
  (afterRegion_keeps (datB m c) (VA m c) launch1.win.arr_inj (fun w => Gru.A_eq (atTc (VA m)) c w) r h1).trans
    ((afterRegion_keeps (datA m c) (V1 m c) launch0.win.arr_inj (fun w => Own.K0.A_eq Variants.none (atTc (V1 m)) 0 c w) r h0).trans
      (V1_of m c r hh))

/-- The arguments end as they were launched. -/
theorem arg_keeps {s : MemSt nD τ sig (Elt F)} {c : Dev nD} (h : ∀ b ∈ Pipeline.ucRefs τ sig, s.mem ((c.tc : Thread nD τ).1, b) = VB m c b)
    (r : Ref sig .tc) (hu : r.isScoped = false) (hh : r ∉ hostOps0_W)
    (h0 : ∀ w, Pipeline.arrRef spec0 w = r → (cfg0.win w).isOut = false)
    (h1 : ∀ w, Pipeline.arrRef spec1 w = r → (cfg1.win w).isOut = false) :
    s.mem ((c.tc : Thread nD τ).loc r) = m ((c.tc : Thread nD τ).loc r) :=
  (h (Proc.devRef .tc r) (Pipeline.devRef_mem_ucRefs (by simp [hu]))).trans (VB_keeps m c r hh h0 h1)

end Cert.KernelIdeal.Whole

end
-- ==== Proof.Frames.lean ====
/- The frames: each program ends, leaves its arguments as they were and every counter at zero. For the two kernels
   this is read off their run theorem (`Whole.run`); the reference has host operations alone and no counter. -/
module

public import proofs.«01_k».proof.Defs
public import proofs.«01_k».proof.Proof.KernelRun
public import proofs.«01_k».proof.Proof.KernelIdealRun
public import proofs.«01_k».proof.Proof.Gen.ReferenceIdeal.Run
public import proofs.«01_k».proof.Proof.Gen.Pre_finite_untied
public import Idealize.ShloMosaic.Lib.Quiescent

@[expose] public section

noncomputable section

namespace Cert.Proof

open Idealize.ShloMosaic Idealize.SL.Sem

/-- The kernel of bit patterns ends with its arguments unchanged and every counter at zero. -/
theorem frame_k : Cert.quiescent_Kernel := fun m g _ =>
  (θ_run Cert.Kernel.defs _ _).mono (fun _ h => ⟨fun c => by
    refine ⟨?_, ?_, ?_, ?_, ?_, ?_, ?_, ?_, ?_, ?_, ?_, ?_, ?_, ?_⟩ <;>
      exact Cert.Kernel.Whole.arg_keeps m (h.1 c) _ rfl (by decide) (by decide) (by decide), h.2⟩)
    (Cert.Kernel.Whole.run m g)

/-- The kernel of real values likewise. -/
theorem frame_i : Cert.quiescent_KernelIdeal := fun m g _ =>
  (θ_run Cert.KernelIdeal.defs _ _).mono (fun _ h => ⟨fun c => by
    refine ⟨?_, ?_, ?_, ?_, ?_, ?_, ?_, ?_, ?_, ?_, ?_, ?_, ?_, ?_⟩ <;>
      exact Cert.KernelIdeal.Whole.arg_keeps m (h.1 c) _ rfl (by decide) (by decide) (by decide), h.2⟩)
    (Cert.KernelIdeal.Whole.run m g)

/-- The reference likewise. -/
theorem frame_r : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run m g)

end Cert.Proof

end
-- ==== Proof.Select.lean ====
/- The selection of the eight largest of 1536 numbers by halves. The numbers lie in two halves, paired by position;
   `pool` holds the larger of each pair and `sub` the smaller. A step removes the largest entry of the pool: its place
   is taken by the pair's other number, and that number's by a stand-in below all of them. After seven steps the
   largest entry of the pool is the eighth largest number. -/
module

public import Idealize.ShloMosaic.PureOps.Ideal.Laws
public import Idealize.ShloMosaic.Lib.IdealHost
public import Mathlib.Tactic.Order

@[expose] public section

noncomputable section

namespace Cert.Spec

open Idealize.ShloMosaic

section Pair

variable {α : Type} [LinearOrder α]

/-- One step on one pair: below `θ` the two numbers are at most `θ'`, and not both of them equal it. -/
theorem pair_step (N θ θ' a b : α) (hθ : θ' < θ) (ha : a < θ → a ≤ θ') (hb : b < θ → b ≤ θ') (hNa : N ≤ a) (hNb : N ≤ b)
    (hN : N < θ') (hab : ¬ (a = θ' ∧ b = θ')) :
    (if max (if a < θ then a else N) (if b < θ then b else N) = θ' then (if max a b < θ then min a b else N)
        else max (if a < θ then a else N) (if b < θ then b else N))
      = max (if a < θ' then a else N) (if b < θ' then b else N)
    ∧ (if max (if a < θ then a else N) (if b < θ then b else N) = θ' then N else (if max a b < θ then min a b else N))
      = (if max a b < θ' then min a b else N) := by
  have key : ∀ y : α, (y < θ → y ≤ θ') → y < θ' ∨ y = θ' ∨ θ ≤ y := fun y h => by
    rcases lt_or_ge y θ with h' | h'
    · rcases (h h').lt_or_eq with h'' | h''
      · exact .inl h''
      · exact .inr (.inl h'')
    · exact .inr (.inr h')
  have eN : N ≠ θ' := hN.ne
  rcases key a ha with h1 | h1 | h1 <;> rcases key b hb with h2 | h2 | h2
  · have h3 := h1.trans hθ; have h4 := h2.trans hθ
    have h5 : max a b < θ' := max_lt h1 h2
    simp [h1, h2, h3, h4, h5, h5.ne, h5.trans hθ]
  · subst h2
    have h3 := h1.trans hθ
    simp [h1, h3, hθ, hNa, max_eq_right h1.le, min_eq_left h1.le]
  · have h3 := h1.trans hθ
    have h4 : ¬ b < θ' := not_lt.mpr (hθ.le.trans h2)
    have h5 : max a N < θ' := max_lt h1 hN
    have h6 : ¬ max a b < θ := not_lt.mpr (h2.trans (le_max_right _ _))
    have h7 : ¬ max a b < θ' := not_lt.mpr (hθ.le.trans (h2.trans (le_max_right _ _)))
    simp [h1, h3, not_lt.mpr h2, h4, h5.ne, h6, h7]
  · subst h1
    have h3 := h2.trans hθ
    simp [h2, h3, hθ, hNb, max_eq_left h2.le, min_eq_right h2.le]
  · exact absurd ⟨h1, h2⟩ hab
  · subst h1
    have h4 : ¬ b < a := not_lt.mpr (hθ.le.trans h2)
    have h6 : ¬ max a b < θ := not_lt.mpr (h2.trans (le_max_right _ _))
    simp [hθ, not_lt.mpr h2, h4, h6, max_eq_left hN.le]
  · have h3 := h2.trans hθ
    have h4 : ¬ a < θ' := not_lt.mpr (hθ.le.trans h1)
    have h5 : max N b < θ' := max_lt hN h2
    have h6 : ¬ max a b < θ := not_lt.mpr (h1.trans (le_max_left _ _))
    have h7 : ¬ max a b < θ' := not_lt.mpr (hθ.le.trans (h1.trans (le_max_left _ _)))
    simp [h2, h3, not_lt.mpr h1, h4, h5.ne, h6, h7]
  · subst h2
    have h4 : ¬ a < b := not_lt.mpr (hθ.le.trans h1)
    have h6 : ¬ max a b < θ := not_lt.mpr (h1.trans (le_max_left _ _))
    simp [hθ, not_lt.mpr h1, h4, h6, max_eq_right hN.le]
  · have h4 : ¬ b < θ' := not_lt.mpr (hθ.le.trans h2)
    have h4' : ¬ a < θ' := not_lt.mpr (hθ.le.trans h1)
    have h6 : ¬ max a b < θ := not_lt.mpr (h2.trans (le_max_right _ _))
    have h7 : ¬ max a b < θ' := not_lt.mpr (hθ.le.trans (h2.trans (le_max_right _ _)))
    simp [not_lt.mpr h1, not_lt.mpr h2, h4, h4', eN, h6, h7]

end Pair

/-- The largest entry. -/
def top {n : ℕ} (f : Fin n → EReal) : EReal := Finset.univ.fold max ⊥ f

theorem top_eq {n : ℕ} (f : Fin n → EReal) (y : EReal) (k : Fin n) (hk : f k = y) (hle : ∀ i, f i ≤ y) : top f = y := by
  show Finset.univ.sup f = y
  exact le_antisymm (Finset.sup_le fun i _ => hle i) (hk ▸ Finset.le_sup (f := f) (Finset.mem_univ k))

theorem le_top {n : ℕ} (f : Fin n → EReal) (k : Fin n) : f k ≤ top f := Finset.le_sup (f := f) (Finset.mem_univ k)

/-- The number in the first half, and the one in the second half, at a position. -/
def lo (p : Fin 768) : Fin 1536 := ⟨p.val, by omega⟩
def hi (p : Fin 768) : Fin 1536 := ⟨768 + p.val, by omega⟩

/-- Seven is the last of eight positions. -/
theorem le_seven (j : ℕ) (hj : j < 8) : (⟨j, hj⟩ : Fin 8) ≤ 7 := by show j ≤ 7; omega

/-- The stand-in's word denotes a number; it is the value `N` of the statements below. -/
abbrev stand : EReal := Ideal.ofBits .f32 0xF149F2CA#32

/-- The pool and the second numbers after a step. -/
def stepPool (f g : Fin 768 → EReal) (p : Fin 768) : EReal := if f p = top f then g p else f p
def stepSub (f g : Fin 768 → EReal) (p : Fin 768) : EReal := if f p = top f then stand else g p

/-- The two after `j` steps. -/
def pools (x : Fin 1536 → EReal) : ℕ → (Fin 768 → EReal) × (Fin 768 → EReal)
  | 0 => (fun p => max (x (lo p)) (x (hi p)), fun p => min (x (lo p)) (x (hi p)))
  | j + 1 => (stepPool (pools x j).1 (pools x j).2, stepSub (pools x j).1 (pools x j).2)

/-- The bound below which the numbers that are left lie after `j` steps: the `j`-th largest number, none at first. -/
def bound (x : Fin 1536 → EReal) (σ : Fin 8 → Fin 1536) (j : ℕ) : EReal :=
  if h : 0 < j ∧ j - 1 < 8 then x (σ ⟨j - 1, h.2⟩) else ⊤

section Run

variable (x : Fin 1536 → EReal) (σ : Fin 8 → Fin 1536) (hσ : StrictAnti (x ∘ σ))
  (hrest : ∀ n, (∃ j, n = σ j) ∨ x n < x (σ 7)) (hN : ∀ n, stand ≤ x n) (hN7 : stand < x (σ 7)) (hT : ∀ n, x n < ⊤)

include hσ hrest hT in
theorem bound_next (j : ℕ) (hj : j < 8) (n : Fin 1536) (h : x n < bound x σ j) : x n ≤ x (σ ⟨j, hj⟩) := by
  rcases hrest n with ⟨i, rfl⟩ | h7
  · refine hσ.antitone (show (⟨j, hj⟩ : Fin 8) ≤ i from ?_)
    by_contra hlt
    rw [not_le] at hlt
    have hlt' : i.val < j := hlt
    unfold bound at h
    rw [dif_pos ⟨by omega, by omega⟩] at h
    exact absurd h (not_lt.mpr (hσ.antitone (show i ≤ (⟨j - 1, by omega⟩ : Fin 8) from Fin.mk_le_mk.mpr (by omega))))
  · exact h7.le.trans (hσ.antitone (le_seven j hj))

include hσ hT in
theorem lt_bound (j : ℕ) (hj : j < 8) : x (σ ⟨j, hj⟩) < bound x σ j := by
  unfold bound
  split
  · exact hσ (Fin.mk_lt_mk.mpr (by omega))
  · exact hT _

theorem bound_succ (j : ℕ) (hj : j < 8) : bound x σ (j + 1) = x (σ ⟨j, hj⟩) := by
  unfold bound
  rw [dif_pos ⟨by omega, by omega⟩]; rfl

include hσ hN7 in
theorem stand_lt (j : ℕ) (hj : j < 8) : stand < x (σ ⟨j, hj⟩) :=
  lt_of_lt_of_le hN7 (hσ.antitone (le_seven j hj))

/-- What pool and second numbers are, in terms of the bound. -/
def Inv (j : ℕ) : Prop :=
  (∀ p, (pools x j).1 p = max (if x (lo p) < bound x σ j then x (lo p) else stand) (if x (hi p) < bound x σ j then x (hi p) else stand))
  ∧ ∀ p, (pools x j).2 p = if max (x (lo p)) (x (hi p)) < bound x σ j then min (x (lo p)) (x (hi p)) else stand

include hσ hrest hN7 hT in
theorem top_of_inv (j : ℕ) (hj : j < 8) (h : Inv x σ j) : top (pools x j).1 = x (σ ⟨j, hj⟩) := by
  have hle : ∀ n, (if x n < bound x σ j then x n else stand) ≤ x (σ ⟨j, hj⟩) := fun n => by
    split
    · exact bound_next x σ hσ hrest hT j hj n ‹_›
    · exact (stand_lt x σ hσ hN7 j hj).le
  have hlt := lt_bound x σ hσ hT j hj
  rcases Nat.lt_or_ge (σ ⟨j, hj⟩).val 768 with hp | hp
  · refine top_eq _ _ ⟨(σ ⟨j, hj⟩).val, hp⟩ ?_ fun i => by rw [h.1]; exact max_le (hle _) (hle _)
    rw [h.1, show lo ⟨(σ ⟨j, hj⟩).val, hp⟩ = σ ⟨j, hj⟩ from rfl, if_pos hlt]
    exact max_eq_left (hle _)
  · refine top_eq _ _ ⟨(σ ⟨j, hj⟩).val - 768, by omega⟩ ?_ fun i => by rw [h.1]; exact max_le (hle _) (hle _)
    rw [h.1, show hi ⟨(σ ⟨j, hj⟩).val - 768, by omega⟩ = σ ⟨j, hj⟩ from Fin.ext (Nat.add_sub_cancel' hp), if_pos hlt]
    exact max_eq_right (hle _)

include hσ hrest hN hN7 hT in
theorem inv (j : ℕ) (hj : j < 8) : Inv x σ j := by
  induction j with
  | zero =>
    have hb : bound x σ 0 = ⊤ := by simp [bound]
    refine ⟨fun p => ?_, fun p => ?_⟩
    · rw [hb, if_pos (hT _), if_pos (hT _)]; rfl
    · rw [hb, if_pos (max_lt (hT _) (hT _))]; rfl
  | succ j ih =>
    have hj' : j < 8 := by omega
    have h := ih hj'
    have ht := top_of_inv x σ hσ hrest hN7 hT j hj' h
    have hp := fun p => pair_step stand (bound x σ j) (x (σ ⟨j, hj'⟩)) (x (lo p)) (x (hi p)) (lt_bound x σ hσ hT j hj')
      (bound_next x σ hσ hrest hT j hj' _) (bound_next x σ hσ hrest hT j hj' _) (hN _) (hN _) (stand_lt x σ hσ hN7 j hj')
      (by
        have hu : ∀ n, x n = x (σ ⟨j, hj'⟩) → n = σ ⟨j, hj'⟩ := fun n hn => by
          rcases hrest n with ⟨i, rfl⟩ | h7
          · exact congrArg σ (hσ.injective hn)
          · exact absurd (hn ▸ h7 : x (σ ⟨j, hj'⟩) < x (σ 7)) (not_lt.mpr (hσ.antitone (le_seven j hj')))
        rintro ⟨h1, h2⟩
        have := (hu _ h1).trans (hu _ h2).symm
        have : p.val = 768 + p.val := congrArg Fin.val this
        omega)
    refine ⟨fun p => ?_, fun p => ?_⟩
    · show stepPool _ _ p = _
      unfold stepPool
      rw [ht, h.1, h.2, bound_succ x σ j hj']
      exact (hp p).1
    · show stepSub _ _ p = _
      unfold stepSub
      rw [ht, h.1, h.2, bound_succ x σ j hj']
      exact (hp p).2

include hσ hrest hN hN7 hT in
/-- After seven steps the largest entry of the pool is the eighth largest number. -/
theorem top_pools : top (pools x 7).1 = x (σ 7) :=
  top_of_inv x σ hσ hrest hN7 hT 7 (by omega) (inv x σ hσ hrest hN hN7 hT 7 (by omega))

include hσ hrest hN hN7 hT in
/-- A number is at least that one exactly if it is one of the eight. -/
theorem sel_iff (n : Fin 1536) : top (pools x 7).1 ≤ x n ↔ ∃ j, σ j = n := by
  rw [top_pools x σ hσ hrest hN hN7 hT]
  constructor
  · intro h
    rcases hrest n with ⟨j, rfl⟩ | h7
    · exact ⟨j, rfl⟩
    · exact absurd h (not_le.mpr h7)
  · rintro ⟨j, rfl⟩
    exact hσ.antitone (le_seven j.val j.isLt)

end Run

end Cert.Spec

end
-- ==== Proof.RowMath.lean ====
/- One row of the attention over the reals: a sum over the selected ones of 1536 columns, weighted with a softmax that is
   shifted by one number, against the sum over the eight selected keys with the softmax shifted by another. -/
module

public import proofs.«01_k».proof.Proof.Select
public import Mathlib.Analysis.SpecialFunctions.Exp

@[expose] public section

noncomputable section

namespace Cert.Spec

open Idealize.ShloMosaic

/-- The literals' words: one half is a number. -/
theorem half_real : Ideal.ofBits .f32 0x3F000000#32 = (((1 : ℝ) / 2 : ℝ) : EReal) := by
  simp [Ideal.ofBits, Ideal.ieee, -EReal.coe_mul]; norm_num

theorem bot_word : Ideal.ofBits .f32 0xFF800000#32 = ⊥ := by
  simp [Ideal.ofBits, Ideal.ieee]

/-- The stand-in is a number below -256. -/
theorem stand_real : ∃ r : ℝ, stand = (r : EReal) ∧ r < -256 := by
  refine ⟨_, by simp only [stand, Ideal.ofBits, Ideal.ieee]; simp [-EReal.coe_mul]; rfl, ?_⟩
  norm_num

theorem coe_sum {ι : Type} (s : Finset ι) (f : ι → ℝ) : (∑ i ∈ s, (f i : EReal)) = ((∑ i ∈ s, f i : ℝ) : EReal) := by
  classical
  induction s using Finset.induction with
  | empty => simp
  | insert a s ha ih => rw [Finset.sum_insert ha, Finset.sum_insert ha, ih, EReal.coe_add]

theorem coe_ite (p : Prop) [Decidable p] (a b : ℝ) : (if p then (a : EReal) else (b : EReal)) = ((if p then a else b : ℝ) : EReal) := by
  split <;> rfl

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul]; rfl

theorem exp_coe (a : ℝ) : Ideal.exp (a : EReal) = ((Real.exp a : ℝ) : EReal) := rfl

/-- The largest of finitely many numbers is a number. -/
theorem top_real {n : ℕ} (f : Fin n → ℝ) (k : Fin n) : ∃ r : ℝ, top (fun i => (f i : EReal)) = (r : EReal) := by
  have h : (Finset.univ : Finset (Fin n)).Nonempty := ⟨k, Finset.mem_univ k⟩
  obtain ⟨i, _, hi⟩ := Finset.exists_mem_eq_sup Finset.univ h (fun i => (f i : EReal))
  exact ⟨f i, hi⟩

/-- A sum over the selected columns is the sum over the eight. -/
theorem sum_sel {M : Type} [AddCommMonoid M] (sel : Fin 1536 → Prop) [DecidablePred sel] (σ : Fin 8 → Fin 1536)
    (hi : Function.Injective σ) (hsel : ∀ n, sel n ↔ ∃ j, σ j = n) (F : Fin 1536 → M) :
    (∑ n, if sel n then F n else 0) = ∑ j, F (σ j) := by
  rw [← Finset.sum_filter, ← Finset.sum_image (f := F) (g := σ) (s := Finset.univ) (fun a _ b _ h => hi h)]
  refine Finset.sum_congr (Finset.ext fun n => ?_) fun _ _ => rfl
  simp [hsel]

/-- The kernel's numerators: the exponentials of the selected columns' logits. -/
def kexp (sel : Fin 1536 → Prop) [DecidablePred sel] (lg : Fin 1536 → EReal) (n : Fin 1536) : EReal :=
  if sel n then Ideal.exp (lg n - top fun n' => if sel n' then lg n' else stand) else 0

/-- The kernel's weights. -/
def kweight (sel : Fin 1536 → Prop) [DecidablePred sel] (x lg : Fin 1536 → EReal) (n : Fin 1536) : EReal :=
  (if sel n then Ideal.ofBits .f32 0x3F000000#32 * x n else 0)
    + Ideal.div (Ideal.ofBits .f32 0x3F000000#32) (∑ n', kexp sel lg n') * kexp sel lg n

/-- The kernel's message. -/
def kmsg (sel : Fin 1536 → Prop) [DecidablePred sel] (x lg : Fin 1536 → EReal) (K : Fin 1536 → Fin 256 → EReal)
    (Wv : Fin 256 → Fin 256 → EReal) (d : Fin 256) : EReal :=
  ∑ e, (∑ n, kweight sel x lg n * K n e) * Wv d e

/-- The reference's weights of the eight keys. -/
def rweight (v l : Fin 8 → EReal) (k : Fin 8) : EReal :=
  Ideal.ofBits .f32 0x3F000000#32 * v k
    + Ideal.ofBits .f32 0x3F000000#32 * Ideal.div (Ideal.exp (l k - max ⊥ (top l))) (∑ j, Ideal.exp (l j - max ⊥ (top l)))

/-- The reference's message. -/
def rmsg (v l : Fin 8 → EReal) (K : Fin 8 → Fin 256 → EReal) (Wv : Fin 256 → Fin 256 → EReal) (d : Fin 256) : EReal :=
  ∑ k, rweight v l k * ∑ e, K k e * Wv d e

theorem real_msg (sel : Fin 1536 → Prop) [DecidablePred sel] (σ : Fin 8 → Fin 1536) (hi : Function.Injective σ)
    (hsel : ∀ n, sel n ↔ ∃ j, σ j = n) (x lg : Fin 1536 → ℝ) (K : Fin 1536 → Fin 256 → ℝ) (W : Fin 256 → ℝ) (m m' : ℝ) :
    (∑ e, (∑ n, ((if sel n then 1 / 2 * x n else 0)
        + (1 / 2) / (∑ n', if sel n' then Real.exp (lg n' - m) else 0) * (if sel n then Real.exp (lg n - m) else 0)) * K n e) * W e)
      = ∑ k, (1 / 2 * x (σ k) + 1 / 2 * (Real.exp (lg (σ k) - m') / ∑ j, Real.exp (lg (σ j) - m'))) * ∑ e, K (σ k) e * W e := by
  rw [sum_sel sel σ hi hsel (fun n => Real.exp (lg n - m))]
  have hshift : ∀ n, Real.exp (lg n - m') = Real.exp (lg n - m) * Real.exp (m - m') := fun n => by
    rw [← Real.exp_add]; congr 1; ring
  have hq : ∀ k, Real.exp (lg (σ k) - m') / ∑ j, Real.exp (lg (σ j) - m')
      = Real.exp (lg (σ k) - m) / ∑ j, Real.exp (lg (σ j) - m) := fun k => by
    simp only [hshift]
    rw [← Finset.sum_mul, mul_div_mul_right _ _ (Real.exp_pos _).ne']
  simp only [hq]
  have hw : ∀ n e, ((if sel n then 1 / 2 * x n else 0)
        + (1 / 2) / (∑ j, Real.exp (lg (σ j) - m)) * (if sel n then Real.exp (lg n - m) else 0)) * K n e
      = if sel n then (1 / 2 * x n + 1 / 2 * (Real.exp (lg n - m) / ∑ j, Real.exp (lg (σ j) - m))) * K n e else 0 := fun n e => by
    split
    · ring
    · ring
  simp only [hw]
  have hs : ∀ e, (∑ n, if sel n then (1 / 2 * x n + 1 / 2 * (Real.exp (lg n - m) / ∑ j, Real.exp (lg (σ j) - m))) * K n e else 0)
      = ∑ k, (1 / 2 * x (σ k) + 1 / 2 * (Real.exp (lg (σ k) - m) / ∑ j, Real.exp (lg (σ j) - m))) * K (σ k) e := fun e =>
    sum_sel sel σ hi hsel (fun n => (1 / 2 * x n + 1 / 2 * (Real.exp (lg n - m) / ∑ j, Real.exp (lg (σ j) - m))) * K n e)
  simp only [hs, Finset.sum_mul, Finset.mul_sum]
  rw [Finset.sum_comm]
  exact Finset.sum_congr rfl fun k _ => Finset.sum_congr rfl fun e _ => by ring

/-- The two messages agree where everything is a number and the selected columns are the eight keys. -/
theorem msg_eq (sel : Fin 1536 → Prop) [DecidablePred sel] (σ : Fin 8 → Fin 1536) (hi : Function.Injective σ)
    (hsel : ∀ n, sel n ↔ ∃ j, σ j = n) (x lg : Fin 1536 → EReal) (K : Fin 1536 → Fin 256 → EReal) (Wv : Fin 256 → Fin 256 → EReal)
    (hx : ∀ n, ∃ r : ℝ, x n = r) (hlg : ∀ n, ∃ r : ℝ, lg n = r) (hK : ∀ n e, ∃ r : ℝ, K n e = r) (hW : ∀ d e, ∃ r : ℝ, Wv d e = r)
    (d : Fin 256) :
    kmsg sel x lg K Wv d = rmsg (fun k => x (σ k)) (fun k => lg (σ k)) (fun k => K (σ k)) Wv d := by
  choose xr hx using hx
  choose lr hlg using hlg
  choose Kr hK using hK
  choose Wr hW using hW
  obtain rfl : x = fun n => (xr n : EReal) := funext hx
  obtain rfl : lg = fun n => (lr n : EReal) := funext hlg
  obtain rfl : K = fun n e => (Kr n e : EReal) := funext fun n => funext (hK n)
  obtain rfl : Wv = fun n e => (Wr n e : EReal) := funext fun n => funext (hW n)
  obtain ⟨s, hs, _⟩ := stand_real
  obtain ⟨m, hm⟩ := top_real (fun n => if sel n then lr n else s) 0
  obtain ⟨m', hm'⟩ := top_real (fun k => lr (σ k)) 0
  have hD : (∑ n', if sel n' then Real.exp (lr n' - m) else 0) ≠ 0 := by
    rw [sum_sel sel σ hi hsel (fun n => Real.exp (lr n - m))]
    exact (Finset.sum_pos (fun j _ => Real.exp_pos _) ⟨0, Finset.mem_univ _⟩).ne'
  have hD' : (∑ j, Real.exp (lr (σ j) - m')) ≠ 0 :=
    (Finset.sum_pos (fun j _ => Real.exp_pos _) ⟨0, Finset.mem_univ _⟩).ne'
  have hke : ∀ n, kexp sel (fun n => (lr n : EReal)) n = ((if sel n then Real.exp (lr n - m) else 0 : ℝ) : EReal) := fun n => by
    unfold kexp
    rw [hs]
    simp only [coe_ite, hm, ← EReal.coe_sub, exp_coe, ← EReal.coe_zero]
  have hkw : ∀ n, kweight sel (fun n => (xr n : EReal)) (fun n => (lr n : EReal)) n
      = (((if sel n then 1 / 2 * xr n else 0)
        + (1 / 2) / (∑ n', if sel n' then Real.exp (lr n' - m) else 0) * (if sel n then Real.exp (lr n - m) else 0) : ℝ) : EReal) := fun n => by
    unfold kweight
    simp only [hke, half_real]
    rw [coe_sum, div_coe _ _ hD, ← EReal.coe_zero, ← EReal.coe_mul, coe_ite, ← EReal.coe_mul, ← EReal.coe_add]
  have hrw : ∀ k, rweight (fun k => (xr (σ k) : EReal)) (fun k => (lr (σ k) : EReal)) k
      = ((1 / 2 * xr (σ k) + 1 / 2 * (Real.exp (lr (σ k) - m') / ∑ j, Real.exp (lr (σ j) - m')) : ℝ) : EReal) := fun k => by
    unfold rweight
    simp only [hm', half_real, max_eq_right bot_le, ← EReal.coe_sub, exp_coe]
    rw [coe_sum, div_coe _ _ hD', ← EReal.coe_mul, ← EReal.coe_mul, ← EReal.coe_add]
  unfold kmsg rmsg
  simp only [hkw, hrw, ← EReal.coe_mul, coe_sum]
  exact congrArg _ (real_msg sel σ hi hsel xr lr Kr (Wr d) m m')

end Cert.Spec

end
-- ==== Proof.TopK.lean ====
/- The reference's choice of the largest entries of a row, read at an index: the entries in the stable sort's order, and the
   rows gathered at the places they stand. -/
module

public import Idealize.ShloMosaic.Lib.Pointwise
public import Idealize.ShloMosaic.Lib.SortFacts
public import Idealize.ShloMosaic.Lib.Pipeline.ValueKit

@[expose] public section

set_option maxRecDepth 16384

noncomputable section

namespace Cert.Spec

open Idealize.ShloMosaic

/-- The places of a row in the order of its entries, largest first. -/
def ord {N : ℕ} (s : Fin N → EReal) : Fin N → Fin N :=
  sortedFrom fun k k' => Ideal.cmpTotal .gt (s k) (s k') == 1#1

theorem gt_one (x y : EReal) : (Ideal.cmpTotal .gt x y == 1#1) = decide (y < x) := by
  simp only [Ideal.cmpTotal, Ideal.cmp, CmpDirection.ordered]
  by_cases h : y < x <;> simp [h]

theorem ord_injective {N : ℕ} (s : Fin N → EReal) : Function.Injective (ord s) := sortedFrom_injective _

theorem ord_surjective {N : ℕ} (s : Fin N → EReal) : Function.Surjective (ord s) := sortedFrom_surjective _

theorem ord_anti {N : ℕ} (s : Fin N → EReal) (i j : Fin N) (h : i < j) : s (ord s j) ≤ s (ord s i) := by
  have := sortedFrom_noInversion (fun k k' => Ideal.cmpTotal .gt (s k) (s k') == 1#1)
    (fun k k' => Ideal.cmpTotal .gt (s k) (s k') == 1#1)
    (fun a b h => by rw [gt_one] at h ⊢; simp only [decide_eq_true_eq, decide_eq_false_iff_not] at h ⊢; exact not_lt.2 h.le)
    (fun _ _ h => h)
    (fun a b c h h' => by
      rw [gt_one] at h h' ⊢
      simp only [decide_eq_false_iff_not, not_lt] at h h' ⊢
      exact h.trans h') i j h
  rw [gt_one, decide_eq_false_iff_not] at this
  exact not_lt.1 this

variable {A B C N K : ℕ}

theorem along_last (b : Fin A) (t : Fin B) (r : Fin C) (k n : Fin N) :
    Shape.Idx.along (s := ⟨4, ![A, B, C, N]⟩) (ix4 b t r k) (3 : Fin 4) n = ix4 b t r n := by
  funext a; fin_cases a <;> rfl

theorem slice_front {α : Type} (w : (⟨4, ![A, B, C, N]⟩ : Shape).Idx → α) (h) (b : Fin A) (t : Fin B) (r : Fin C) (k : Fin K)
    (hK : K ≤ N) :
    extractStridedSlice (s := ⟨4, ![A, B, C, N]⟩) ⟨4, ![A, B, C, K]⟩ (fun _ => 0) w h (ix4 b t r k) = w (ix4 b t r (k.castLE hK)) :=
  congrArg w (by funext a; fin_cases a <;> exact Fin.ext (Nat.zero_add _))

theorem topK_val (x : FVec Ideal ⟨4, ![A, B, C, N]⟩ .f32) (h) (b : Fin A) (t : Fin B) (r : Fin C) (k : Fin K) (hK : K ≤ N) :
    (Host.topK (s := ⟨4, ![A, B, C, N]⟩) ⟨4, ![A, B, C, K]⟩ 3 (FloatOps.cmpfTotal (F := Ideal) .gt) x h).1 (ix4 b t r k)
      = x (ix4 b t r (ord (fun n => x (ix4 b t r n)) (k.castLE hK))) := by
  dsimp only [Host.topK]
  refine (slice_front _ h b t r k hK).trans ?_
  unfold Host.sort2
  rw [dif_pos (show 3 < 4 by decide)]
  refine Eq.trans (b := x (ix4 b t r (sortedFrom (fun n n' => Ideal.cmpTotal .gt
    (x (Shape.Idx.along (s := ⟨4, ![A, B, C, N]⟩) (ix4 b t r (k.castLE hK)) (3 : Fin 4) n))
    (x (Shape.Idx.along (s := ⟨4, ![A, B, C, N]⟩) (ix4 b t r (k.castLE hK)) (3 : Fin 4) n')) == 1#1) (k.castLE hK)))) (congrArg x (along_last b t r _ _)) ?_
  simp only [along_last]
  rfl

theorem topK_idx (x : FVec Ideal ⟨4, ![A, B, C, N]⟩ .f32) (h) (b : Fin A) (t : Fin B) (r : Fin C) (k : Fin K) (hK : K ≤ N) :
    (Host.topK (s := ⟨4, ![A, B, C, N]⟩) ⟨4, ![A, B, C, K]⟩ 3 (FloatOps.cmpfTotal (F := Ideal) .gt) x h).2 (ix4 b t r k)
      = BitVec.ofNat 32 (ord (fun n => x (ix4 b t r n)) (k.castLE hK)).val := by
  dsimp only [Host.topK]
  refine (slice_front _ h b t r k hK).trans ?_
  unfold Host.sort2
  rw [dif_pos (show 3 < 4 by decide)]
  refine Eq.trans (b := BitVec.ofNat 32 (sortedFrom (fun n n' => Ideal.cmpTotal .gt
    (x (Shape.Idx.along (s := ⟨4, ![A, B, C, N]⟩) (ix4 b t r (k.castLE hK)) (3 : Fin 4) n))
    (x (Shape.Idx.along (s := ⟨4, ![A, B, C, N]⟩) (ix4 b t r (k.castLE hK)) (3 : Fin 4) n')) == 1#1) (k.castLE hK)).val) rfl ?_
  exact congrArg (fun f => BitVec.ofNat 32 (ord f (k.castLE hK)).val) (funext fun n => congrArg x (along_last b t r (k.castLE hK) n))

/-- A small word is not negative. -/
theorem small_word (n : ℕ) (h : n < 2048) : (BitVec.ofNat 32 n).toInt = n := by
  rw [BitVec.toInt_ofNat']
  simp [Int.bmod]; omega

theorem wrap_word (n : ℕ) (h : n < 2048) (w : BitVec 32) :
    Scalar.select (IntOp.cmpi .slt (BitVec.ofNat 32 n) 0#32) w (BitVec.ofNat 32 n) = BitVec.ofNat 32 n := by
  have : IntOp.cmpi .slt (BitVec.ofNat 32 n) 0#32 = 0#1 := by
    have h2 : (BitVec.ofNat 32 n).slt 0#32 = false := by
      rw [BitVec.slt, small_word n h]; simp
    simp [IntOp.cmpi, h2]
  rw [this]; rfl

theorem gather_row {D : ℕ} (wf) (x : FVec Ideal ⟨4, ![A, B, N, D]⟩ .f32) (idx : IVec ⟨5, ![A, B, C, K, 1]⟩ 32)
    (b : Fin A) (t : Fin B) (r : Fin C) (k : Fin K) (d : Fin D) (n : Fin N) (hN : N ≤ 2048)
    (hn : idx (ix5 b t r k 0) = BitVec.ofNat 32 n.val) :
    Host.gather (s := ⟨4, ![A, B, N, D]⟩) (si := ⟨5, ![A, B, C, K, 1]⟩) (t := ⟨5, ![A, B, C, K, D]⟩)
      ⟨[4], [2], [0, 1], [0, 1], [2], 4, ![1, 1, 1, D], wf⟩ x idx (ix5 b t r k d) = x (ix4 b t n d) := by
  unfold Host.gather
  refine congrArg x ?_
  funext a
  have hs : ∀ c, GatherDims.siIdx (s := ⟨4, ![A, B, N, D]⟩) (si := ⟨5, ![A, B, C, K, 1]⟩) (t := ⟨5, ![A, B, C, K, D]⟩)
      ⟨[4], [2], [0, 1], [0, 1], [2], 4, ![1, 1, 1, D], wf⟩ (ix5 b t r k d) c = ix5 b t r k 0 := fun c => by
    funext a
    fin_cases a
    · rfl
    · rfl
    · rfl
    · rfl
    · exact Subsingleton.elim (α := Fin 1) _ _
  have h2 : GatherDims.start (s := ⟨4, ![A, B, N, D]⟩) (si := ⟨5, ![A, B, C, K, 1]⟩) (t := ⟨5, ![A, B, C, K, D]⟩)
      ⟨[4], [2], [0, 1], [0, 1], [2], 4, ![1, 1, 1, D], wf⟩ (ix5 b t r k d) idx (2 : Fin 4) = n.val := by
    unfold GatherDims.start
    rw [dif_pos (by exact List.mem_singleton.2 rfl), hs, hn, small_word n.val (by omega)]
    exact min_eq_left (by have := n.isLt; show n.val ≤ N - 1; omega)
  fin_cases a
  · exact Fin.ext ((Nat.zero_add _).trans rfl)
  · exact Fin.ext ((Nat.zero_add _).trans rfl)
  · exact Fin.ext h2
  · exact Fin.ext (Nat.zero_add _)

end Cert.Spec
end
-- ==== Proof.Spec.lean ====
/- What the two programs compute, one row at a time: the cosine similarities with the keys of three time steps, the messages
   as the kernel and as the reference writes them, the normalised rows, and the recurrent step. -/
module

public import proofs.«01_k».proof.Proof.RowMath
public import proofs.«01_k».proof.Proof.TopK

@[expose] public section

noncomputable section

namespace Cert.Spec

open Idealize.ShloMosaic

/-- A row of 256 numbers. -/
abbrev Row := Fin 256 → EReal

/-- A row divided by its length, or by a small number where that is larger. -/
def nrm (x : Row) (d : Fin 256) : EReal :=
  Ideal.div (x d) (max (Ideal.sqrt (∑ e, x e * x e)) (Ideal.ofBits .f32 0x2B8CBCCC#32))

/-- The rows of one batch element: eight time steps of 512. -/
abbrev Steps := Fin 8 → Fin 512 → Row

/-- The step `k` before `t`, the first one if there is none. -/
def prev (t : Fin 8) (k : ℕ) : Fin 8 := ⟨t.val - k, by omega⟩

/-- The keys of step `t`: the rows of `t`, of the step before and of the one before that, the first step standing in for the
    ones before it. -/
def key (Z : Steps) (t : Fin 8) (n : Fin 1536) : Row :=
  Z (prev t (n.val / 512)) ⟨n.val % 512, Nat.mod_lt _ (by decide)⟩

/-- The cosine similarity of row `r` with key `n`. -/
def sim (Z : Steps) (t : Fin 8) (r : Fin 512) (n : Fin 1536) : EReal := ∑ d, nrm (Z t r) d * nrm (key Z t n) d

/-- How many of the 1536 columns are keys of the step. -/
def seen (t : Fin 8) : ℕ := (min t.val 2 + 1) * 512

theorem seen_le (t : Fin 8) : 512 ≤ seen t ∧ seen t ≤ 1536 := by unfold seen; omega

/-- The similarities with the stand-in in the columns that are no keys. -/
def msim (Z : Steps) (t : Fin 8) (r : Fin 512) (n : Fin 1536) : EReal := if n.val < seen t then sim Z t r n else stand

/-- The logit of key `n`. -/
def logit (Z : Steps) (Wq Wk : Fin 256 → Row) (t : Fin 8) (n : Fin 1536) : EReal :=
  (∑ e, Z t 0 e * Wq 0 e) * ∑ o, ∑ e, Wk o e * key Z t n e

/-- The message of row `r` as the kernel forms it. -/
def kmessage (Z : Steps) (Wv Wq Wk : Fin 256 → Row) (t : Fin 8) (r : Fin 512) : Row :=
  kmsg (fun n => top (pools (msim Z t r) 7).1 ≤ msim Z t r n) (msim Z t r) (logit Z Wq Wk t) (key Z t) Wv

/-- The eight keys the reference takes: the first eight columns in the order of the similarities. -/
def pick (Z : Steps) (t : Fin 8) (r : Fin 512) (k : Fin 8) : Fin 1536 :=
  (ord (fun n : Fin (seen t) => sim Z t r (n.castLE (seen_le t).2)) (k.castLE (by have := (seen_le t).1; omega))).castLE (seen_le t).2

/-- The message of row `r` as the reference forms it. -/
def rmessage (Z : Steps) (Wv Wq Wk : Fin 256 → Row) (t : Fin 8) (r : Fin 512) : Row :=
  rmsg (fun k => sim Z t r (pick Z t r k)) (fun k => logit Z Wq Wk t (pick Z t r k)) (fun k => key Z t (pick Z t r k)) Wv

/-- The mean of a row. -/
def mean (x : Row) : EReal := Ideal.div (∑ d, x d) (Ideal.ofBits .f32 0x43800000#32)

/-- A row normalised to mean zero and variance one, scaled and shifted. -/
def lnorm (x w b : Row) (d : Fin 256) : EReal :=
  Ideal.div (x d - mean x) (Ideal.sqrt (mean (fun e => (x e - mean x) * (x e - mean x)) + Ideal.ofBits .f32 0x3727C5AC#32)) * w d + b d

/-- The recurrent step's input from a message and the row it is for. -/
def inrow (msg z : Row) (Wq Wo : Fin 256 → Row) (lw lb : Row) (Wih : Fin 768 → Row) (bih : Fin 768 → EReal) (g : Fin 768) : EReal :=
  ∑ o, (∑ e, lnorm (fun d => msg d + ∑ e, z e * Wq d e) lw lb e * Wo o e) * Wih g o + bih g

/-- The recurrent step's other input, from the memory. -/
def memrow (mem : Row) (Whh : Fin 768 → Row) (bhh : Fin 768 → EReal) (g : Fin 768) : EReal := ∑ e, mem e * Whh g e + bhh g

/-- The three parts of 768 columns. -/
def p0 (d : Fin 256) : Fin 768 := ⟨d.val, by omega⟩
def p1 (d : Fin 256) : Fin 768 := ⟨256 + d.val, by omega⟩
def p2 (d : Fin 256) : Fin 768 := ⟨512 + d.val, by omega⟩

/-- One recurrent step. -/
def gru (gi gh : Fin 768 → EReal) (mem : Row) (d : Fin 256) : EReal :=
  (1 - Ideal.logistic (gi (p1 d) + gh (p1 d)))
      * Ideal.tanh (gi (p2 d) + Ideal.logistic (gi (p0 d) + gh (p0 d)) * gh (p2 d))
    + Ideal.logistic (gi (p1 d) + gh (p1 d)) * mem d

/-- The memory after the steps before `n`. -/
def memory (gi : ℕ → Fin 768 → EReal) (Whh : Fin 768 → Row) (bhh : Fin 768 → EReal) : ℕ → Row
  | 0 => fun _ => 0
  | n + 1 => gru (gi n) (memrow (memory gi Whh bhh n) Whh bhh) (memory gi Whh bhh n)

/-- The output row from the row it is for and the memory. -/
def outrow (z mem : Row) (Wm : Fin 256 → Row) (bm : Row) (d : Fin 256) : EReal := z d + ∑ e, mem e * Wm d e + bm d

end Cert.Spec

end
-- ==== Proof.KernelRow.lean ====
/- The first call's body read at one row of its block: the message of the row and the recurrent step's input from it. -/
module

public import proofs.«01_k».proof.Proof.Spec
public import proofs.«01_k».proof.Proof.Gen.KernelIdeal.Skeleton
public import Idealize.ShloMosaic.Lib.Pointwise
public import Idealize.ShloMosaic.Lib.Pipeline.ValueKit

@[expose] public section

set_option maxRecDepth 16384

noncomputable section

namespace Cert.KernelIdeal.Row

open Cert.KernelIdeal Cert.KernelIdeal.Gen Cert.Spec Idealize.ShloMosaic

/-- The column test of the mask: a small word is less than the number of keys. -/
theorem mask_word (t : Fin 8) (n : Fin 1536) {α : Type} (a b : α) :
    Scalar.select (IntOp.cmpi CmpIPredicate.slt (BitVec.ofNat 32 n.val)
        (Scalar.muli (Scalar.addi (Scalar.minsi (BitVec.ofNat 32 t.val) 2#32) 1#32) 512#32)) a b
      = if n.val < seen t then a else b := by
  have hw : Scalar.muli (Scalar.addi (Scalar.minsi (BitVec.ofNat 32 t.val) 2#32) 1#32) 512#32 = BitVec.ofNat 32 (seen t) := by
    revert t; decide
  have h : (BitVec.ofNat 32 n.val).slt (BitVec.ofNat 32 (seen t)) = decide (n.val < seen t) := by
    have := (seen_le t).2
    rw [BitVec.slt, small_word _ (by omega), small_word _ (by omega)]
    simp
  rw [hw]
  simp only [IntOp.cmpi, h, Scalar.select]
  by_cases h' : n.val < seen t <;> simp [h']

theorem pay6 (v24 : FVec Ideal S512x1536 .f32) (i : grid0.Coords) (r : Fin 512) (n : Fin 1536) :
    k0_pay6 v24 (k0_pay5 i) (Ideal.ofBits .f32 0xF149F2CA#32) (ix2 r n) = if n.val < seen (i 1) then v24 (ix2 r n) else stand := by
  pointwise [k0_pay6, k0_pay5]
  exact mask_word (i 1) n _ _

section Select

variable (v24 : FVec Ideal S512x1536 .f32) (v30 : IVec S512x1536 1) (c : Ideal .f32) (r : Fin 512)

/-- The row of similarities the selection runs over. -/
abbrev xrow (n : Fin 1536) : EReal := k0_pay6 v24 v30 c (ix2 r n)

theorem pools0 (p : Fin 768) : k0_pay10 v24 v30 c (ix2 r p) = (pools (xrow v24 v30 c r) 0).1 p
    ∧ k0_pay11 v24 v30 c (ix2 r p) = (pools (xrow v24 v30 c r) 0).2 p := by
  constructor
  · pointwise [k0_pay10, k0_pay8, k0_pay9]; rfl
  · pointwise [k0_pay11, k0_pay8, k0_pay9]; rfl

theorem pools1 (p : Fin 768) : k0_pay13 v24 v30 c (ix2 r p) = (pools (xrow v24 v30 c r) 1).1 p
    ∧ k0_pay14 v24 v30 c (ix2 r p) = (pools (xrow v24 v30 c r) 1).2 p := by
  have h := pools0 v24 v30 c r
  constructor
  · pointwise [k0_pay13, k0_pay12]; simp only [bot_word, (h _).1, (h _).2]; rfl
  · pointwise [k0_pay14, k0_pay12]; simp only [bot_word, (h _).1, (h _).2]; rfl

theorem pools2 (p : Fin 768) : k0_pay16 v24 v30 c (ix2 r p) = (pools (xrow v24 v30 c r) 2).1 p
    ∧ k0_pay17 v24 v30 c (ix2 r p) = (pools (xrow v24 v30 c r) 2).2 p := by
  have h := pools1 v24 v30 c r
  constructor
  · pointwise [k0_pay16, k0_pay15]; simp only [bot_word, (h _).1, (h _).2]; rfl
  · pointwise [k0_pay17, k0_pay15]; simp only [bot_word, (h _).1, (h _).2]; rfl

theorem pools3 (p : Fin 768) : k0_pay19 v24 v30 c (ix2 r p) = (pools (xrow v24 v30 c r) 3).1 p
    ∧ k0_pay20 v24 v30 c (ix2 r p) = (pools (xrow v24 v30 c r) 3).2 p := by
  have h := pools2 v24 v30 c r
  constructor
  · pointwise [k0_pay19, k0_pay18]; simp only [bot_word, (h _).1, (h _).2]; rfl
  · pointwise [k0_pay20, k0_pay18]; simp only [bot_word, (h _).1, (h _).2]; rfl

theorem pools4 (p : Fin 768) : k0_pay22 v24 v30 c (ix2 r p) = (pools (xrow v24 v30 c r) 4).1 p
    ∧ k0_pay23 v24 v30 c (ix2 r p) = (pools (xrow v24 v30 c r) 4).2 p := by
  have h := pools3 v24 v30 c r
  constructor
  · pointwise [k0_pay22, k0_pay21]; simp only [bot_word, (h _).1, (h _).2]; rfl
  · pointwise [k0_pay23, k0_pay21]; simp only [bot_word, (h _).1, (h _).2]; rfl

theorem pools5 (p : Fin 768) : k0_pay25 v24 v30 c (ix2 r p) = (pools (xrow v24 v30 c r) 5).1 p
    ∧ k0_pay26 v24 v30 c (ix2 r p) = (pools (xrow v24 v30 c r) 5).2 p := by
  have h := pools4 v24 v30 c r
  constructor
  · pointwise [k0_pay25, k0_pay24]; simp only [bot_word, (h _).1, (h _).2]; rfl
  · pointwise [k0_pay26, k0_pay24]; simp only [bot_word, (h _).1, (h _).2]; rfl

/-- A choice by the kernel's selection is a choice by the threshold. -/
theorem choose_eq (n : Fin 1536) (a b : EReal) [Decidable (top (pools (xrow v24 v30 c r) 7).1 ≤ xrow v24 v30 c r n)] :
    Scalar.select (k0_pay27 (k0_pay6 v24 v30 c) (k0_pay25 v24 v30 c) (k0_pay26 v24 v30 c) (ix2 r n)) a b
      = if top (pools (xrow v24 v30 c r) 7).1 ≤ xrow v24 v30 c r n then a else b := by
  have h := pools5 v24 v30 c r
  refine Eq.trans (b := select (k0_pay27 (k0_pay6 v24 v30 c) (k0_pay25 v24 v30 c) (k0_pay26 v24 v30 c))
    (broadcast S512x1536 (a : Ideal .f32)) (broadcast S512x1536 (b : Ideal .f32)) (ix2 r n)) rfl ?_
  pointwise [k0_pay27]
  simp only [bot_word, (h _).1, (h _).2]
  refine if_congr (Iff.of_eq (congrArg (· ≤ _) ?_)) rfl rfl
  rfl

end Select

end Cert.KernelIdeal.Row
end
-- ==== Proof.KernelBlock.lean ====
/- The block the first call leaves at a grid point, read at one row: the recurrent step's input from the row's message. -/
module

public import proofs.«01_k».proof.Proof.KernelRow

@[expose] public section

set_option maxRecDepth 16384

noncomputable section

namespace Cert.KernelIdeal.Row

open Cert.KernelIdeal Cert.KernelIdeal.Gen Cert.Spec Idealize.ShloMosaic

/-- The block from what the body loads: the rows of three steps, their normalised rows, and the weights. -/
def block (i : grid0.Coords) (a b c qa qb qc : Vec Ideal S1x1x512x256 .f32) (x2 x3 x4 : Vec Ideal S256x256 .f32)
    (x5 x6 x7 : Vec Ideal S1x256 .f32) (x8 : Vec Ideal S256x256 .f32) (x9 : Vec Ideal S768x256 .f32) (x10 : Vec Ideal S1x768 .f32) :
    FVec Ideal S1x1x512x768 .bf16 :=
  k0_pay1 (k0_pay31 (k0_pay2 a) (k0_pay3 a b c)
    (k0_pay28 (k0_pay2 a) (k0_pay6 (k0_pay4 qa qb qc) (k0_pay5 i) (Ideal.ofBits .f32 0xF149F2CA#32)) (k0_pay7 (k0_pay3 a b c) x8)
      (k0_pay25 (k0_pay4 qa qb qc) (k0_pay5 i) (Ideal.ofBits .f32 0xF149F2CA#32))
      (k0_pay26 (k0_pay4 qa qb qc) (k0_pay5 i) (Ideal.ofBits .f32 0xF149F2CA#32)) x7)
    (k0_pay29 (k0_pay2 a) (k0_pay6 (k0_pay4 qa qb qc) (k0_pay5 i) (Ideal.ofBits .f32 0xF149F2CA#32)) (k0_pay7 (k0_pay3 a b c) x8)
      (k0_pay25 (k0_pay4 qa qb qc) (k0_pay5 i) (Ideal.ofBits .f32 0xF149F2CA#32))
      (k0_pay26 (k0_pay4 qa qb qc) (k0_pay5 i) (Ideal.ofBits .f32 0xF149F2CA#32)) x7)
    (k0_pay30 (k0_pay6 (k0_pay4 qa qb qc) (k0_pay5 i) (Ideal.ofBits .f32 0xF149F2CA#32))
      (k0_pay25 (k0_pay4 qa qb qc) (k0_pay5 i) (Ideal.ofBits .f32 0xF149F2CA#32))
      (k0_pay26 (k0_pay4 qa qb qc) (k0_pay5 i) (Ideal.ofBits .f32 0xF149F2CA#32)))
    (Ideal.ofBits .f32 0x3F000000#32) x3 x2 x5 x6 x4) x9 x10

section Tail

variable (v6 : FVec Ideal S512x256 .f32) (v23 : FVec Ideal S1536x256 .f32) (v116 : FVec Ideal S512x1536 .f32)
  (v118 : FVec Ideal S512x1 .f32) (v122 : FVec Ideal S512x1536 .f32) (x2 x3 x4 : Vec Ideal S256x256 .f32) (x5 x6 : Vec Ideal S1x256 .f32)
  (r : Fin 512) (w : Fin 1536 → EReal) (K : Fin 1536 → Row) (z msg : Row) (Wo Wr Wv : Fin 256 → Row) (lw lb : Row)
  (hw : ∀ n, v122 (ix2 r n) + Ideal.div (Ideal.ofBits .f32 0x3F000000#32) (v118 (ix2 r 0)) * v116 (ix2 r n) = w n)
  (hK : ∀ n d, v23 (ix2 n d) = K n d) (hz : ∀ d, v6 (ix2 r d) = z d) (h2 : ∀ d e, x2 (ix2 d e) = Wr d e)
  (h3 : ∀ d e, x3 (ix2 d e) = Wv d e) (h4 : ∀ d e, x4 (ix2 d e) = Wo d e) (h5 : ∀ e, x5 (ix2 0 e) = lw e)
  (h6 : ∀ e, x6 (ix2 0 e) = lb e) (hmsg : ∀ d, (∑ e, (∑ n, w n * K n e) * Wv d e) = msg d)

include hw hK hz h2 h3 h4 h5 h6 hmsg in
theorem tail_row (o : Fin 256) : k0_pay31 v6 v23 v116 v118 v122 (Ideal.ofBits .f32 0x3F000000#32) x3 x2 x5 x6 x4 (ix2 r o)
    = ∑ e, lnorm (fun d => msg d + ∑ e, z e * Wr d e) lw lb e * Wo o e := by
  pointwise [k0_pay31]
  simp only [hw, hK, hz, h2, h3, h4, h5, h6, hmsg]
  rfl

theorem out_row (v160 : FVec Ideal S512x256 .f32) (v162 : Vec Ideal S768x256 .f32) (v164 : Vec Ideal S1x768 .f32) (g : Fin 768) :
    k0_pay1 v160 v162 v164 (ix4 0 0 r g) = (∑ o, v160 (ix2 r o) * v162 (ix2 g o)) + v164 (ix2 0 g) := by
  pointwise [k0_pay1]

end Tail

section

variable (Z : Steps) (t : Fin 8)

/-- Three blocks of rows, one under the other, are the keys. -/
theorem three (f : Row → Row) (A B C : Fin 512 → Row) (hA : ∀ r, A r = f (Z t r)) (hB : ∀ r, B r = f (Z (prev t 1) r))
    (hC : ∀ r, C r = f (Z (prev t 2) r)) (n : Fin 1536) (d : Fin 256) :
    (if h : n.val < 512 then A ⟨n.val, h⟩ d else if h' : n.val - 512 < 512 then B ⟨n.val - 512, h'⟩ d
      else C ⟨n.val - 512 - 512, by omega⟩ d) = f (key Z t n) d := by
  have key_at : ∀ (t' : Fin 8) (r : Fin 512), t'.val = t.val - n.val / 512 → r.val = n.val % 512 → Z t' r = key Z t n := by
    intro t' r h1 h2
    obtain rfl : t' = prev t (n.val / 512) := Fin.ext h1
    obtain rfl : r = ⟨n.val % 512, Nat.mod_lt _ (by decide)⟩ := Fin.ext h2
    rfl
  split
  · rename_i h
    rw [hA, key_at t ⟨n.val, h⟩ (by omega) (by show n.val = _; omega)]
  · split
    · rename_i h h'
      rw [hB, key_at (prev t 1) ⟨n.val - 512, h'⟩ (by show t.val - 1 = _; omega) (by show n.val - 512 = _; omega)]
    · rename_i h h'
      rw [hC, key_at (prev t 2) ⟨n.val - 512 - 512, by omega⟩ (by show t.val - 2 = _; omega) (by show n.val - 512 - 512 = _; omega)]

variable (i : grid0.Coords) (ht : i 1 = t) (a b c qa qb qc : Vec Ideal S1x1x512x256 .f32)
  (ha : ∀ r d, a (ix4 0 0 r d) = Z t r d) (hb : ∀ r d, b (ix4 0 0 r d) = Z (prev t 1) r d)
  (hc : ∀ r d, c (ix4 0 0 r d) = Z (prev t 2) r d)
  (hqa : ∀ r d, qa (ix4 0 0 r d) = nrm (Z t r) d) (hqb : ∀ r d, qb (ix4 0 0 r d) = nrm (Z (prev t 1) r) d)
  (hqc : ∀ r d, qc (ix4 0 0 r d) = nrm (Z (prev t 2) r) d)

include ha hb hc in
theorem keys_eq (n : Fin 1536) (d : Fin 256) : k0_pay3 a b c (ix2 n d) = key Z t n d := by
  pointwise [k0_pay3, k0_pay2]
  exact three Z t (fun x => x) (fun r d => a (ix4 0 0 r d)) (fun r d => b (ix4 0 0 r d)) (fun r d => c (ix4 0 0 r d))
    (fun r => funext (ha r)) (fun r => funext (hb r)) (fun r => funext (hc r)) n d

include hqa hqb hqc in
theorem sims_eq (r : Fin 512) (n : Fin 1536) : k0_pay4 qa qb qc (ix2 r n) = sim Z t r n := by
  pointwise [k0_pay4]
  refine Finset.sum_congr rfl fun d _ => congrArg₂ (· * ·) (hqa r d) ?_
  exact three Z t nrm (fun r d => qa (ix4 0 0 r d)) (fun r d => qb (ix4 0 0 r d)) (fun r d => qc (ix4 0 0 r d))
    (fun r => funext (hqa r)) (fun r => funext (hqb r)) (fun r => funext (hqc r)) n d

include ht hqa hqb hqc in
theorem xrow_eq (r : Fin 512) :
    xrow (k0_pay4 qa qb qc) (k0_pay5 i) (Ideal.ofBits .f32 0xF149F2CA#32) r = msim Z t r := funext fun n => by
  subst ht
  refine (pay6 _ i r n).trans ?_
  rw [sims_eq Z (i 1) qa qb qc hqa hqb hqc]
  rfl

variable (x7 : Vec Ideal S1x256 .f32) (x8 : Vec Ideal S256x256 .f32) (Wq Wk : Fin 256 → Row)
  (h7 : ∀ e, x7 (ix2 0 e) = Wq 0 e) (h8 : ∀ o e, x8 (ix2 o e) = Wk o e)

include ha hb hc h7 h8 in
theorem logit_eq (n : Fin 1536) :
    (∑ _x : Fin 1, ∑ e, k0_pay2 a (ix2 0 e) * x7 (ix2 0 e)) * k0_pay7 (k0_pay3 a b c) x8 (ix2 0 n) = logit Z Wq Wk t n := by
  have h1 : ∀ e, k0_pay2 a (ix2 0 e) = Z t 0 e := fun e => by
    pointwise [k0_pay2]
    exact ha 0 e
  have h2 : k0_pay7 (k0_pay3 a b c) x8 (ix2 0 n) = ∑ o, ∑ e, Wk o e * key Z t n e := by
    pointwise [k0_pay7]
    exact Finset.sum_congr rfl fun o _ => Finset.sum_congr rfl fun e _ => congrArg₂ (· * ·) (h8 o e) (keys_eq Z t a b c ha hb hc n e)
  rw [h2, Fin.sum_univ_one]
  simp only [h1, h7]
  rfl

include ht ha hb hc hqa hqb hqc h7 h8 in
theorem exps_eq (r : Fin 512) (n : Fin 1536) :
    k0_pay28 (k0_pay2 a) (k0_pay6 (k0_pay4 qa qb qc) (k0_pay5 i) (Ideal.ofBits .f32 0xF149F2CA#32)) (k0_pay7 (k0_pay3 a b c) x8)
      (k0_pay25 (k0_pay4 qa qb qc) (k0_pay5 i) (Ideal.ofBits .f32 0xF149F2CA#32))
      (k0_pay26 (k0_pay4 qa qb qc) (k0_pay5 i) (Ideal.ofBits .f32 0xF149F2CA#32)) x7 (ix2 r n)
      = kexp (fun n => top (pools (msim Z t r) 7).1 ≤ msim Z t r n) (logit Z Wq Wk t) n := by
  have h : ∀ n, xrow (k0_pay4 qa qb qc) (k0_pay5 i) (Ideal.ofBits .f32 0xF149F2CA#32) r n = msim Z t r n :=
    congrFun (xrow_eq Z t i ht qa qb qc hqa hqb hqc r)
  pointwise [k0_pay28]
  simp only [choose_eq, logit_eq Z t a b c ha hb hc x7 x8 Wq Wk h7 h8, xrow_eq Z t i ht qa qb qc hqa hqb hqc, h, bot_word]
  rfl

include ht hqa hqb hqc in
theorem halves_eq (r : Fin 512) (n : Fin 1536) :
    k0_pay30 (k0_pay6 (k0_pay4 qa qb qc) (k0_pay5 i) (Ideal.ofBits .f32 0xF149F2CA#32))
      (k0_pay25 (k0_pay4 qa qb qc) (k0_pay5 i) (Ideal.ofBits .f32 0xF149F2CA#32))
      (k0_pay26 (k0_pay4 qa qb qc) (k0_pay5 i) (Ideal.ofBits .f32 0xF149F2CA#32)) (ix2 r n)
      = if top (pools (msim Z t r) 7).1 ≤ msim Z t r n then Ideal.ofBits .f32 0x3F000000#32 * msim Z t r n else 0 := by
  have h : k0_pay6 (k0_pay4 qa qb qc) (k0_pay5 i) (Ideal.ofBits .f32 0xF149F2CA#32) (ix2 r n) = msim Z t r n :=
    congrFun (xrow_eq Z t i ht qa qb qc hqa hqb hqc r) n
  pointwise [k0_pay30]
  simp only [choose_eq, xrow_eq Z t i ht qa qb qc hqa hqb hqc, h]

variable (x2 x3 x4 : Vec Ideal S256x256 .f32) (x5 x6 : Vec Ideal S1x256 .f32) (x9 : Vec Ideal S768x256 .f32) (x10 : Vec Ideal S1x768 .f32)
  (Wo Wr Wv : Fin 256 → Row) (lw lb : Row) (Wih : Fin 768 → Row) (bih : Fin 768 → EReal)
  (h2 : ∀ d e, x2 (ix2 d e) = Wr d e) (h3 : ∀ d e, x3 (ix2 d e) = Wv d e) (h4 : ∀ d e, x4 (ix2 d e) = Wo d e)
  (h5 : ∀ e, x5 (ix2 0 e) = lw e) (h6 : ∀ e, x6 (ix2 0 e) = lb e) (h9 : ∀ g e, x9 (ix2 g e) = Wih g e) (h10 : ∀ g, x10 (ix2 0 g) = bih g)

include ht ha hb hc hqa hqb hqc h2 h3 h4 h5 h6 h7 h8 h9 h10 in
/-- The block at row `r`. -/
theorem block_row (r : Fin 512) (g : Fin 768) : block i a b c qa qb qc x2 x3 x4 x5 x6 x7 x8 x9 x10 (ix4 0 0 r g)
    = inrow (kmessage Z Wv Wq Wk t r) (Z t r) Wr Wo lw lb Wih bih g := by
  have hz : ∀ d, k0_pay2 a (ix2 r d) = Z t r d := fun d => by
    pointwise [k0_pay2]
    exact ha r d
  have hden : k0_pay29 (k0_pay2 a) (k0_pay6 (k0_pay4 qa qb qc) (k0_pay5 i) (Ideal.ofBits .f32 0xF149F2CA#32)) (k0_pay7 (k0_pay3 a b c) x8)
      (k0_pay25 (k0_pay4 qa qb qc) (k0_pay5 i) (Ideal.ofBits .f32 0xF149F2CA#32))
      (k0_pay26 (k0_pay4 qa qb qc) (k0_pay5 i) (Ideal.ofBits .f32 0xF149F2CA#32)) x7 (ix2 r 0)
      = ∑ n, kexp (fun n => top (pools (msim Z t r) 7).1 ≤ msim Z t r n) (logit Z Wq Wk t) n := by
    simp only [← exps_eq Z t i ht a b c qa qb qc ha hb hc hqa hqb hqc x7 x8 Wq Wk h7 h8 r]
    pointwise [k0_pay29]
  unfold block
  refine (out_row r _ x9 x10 g).trans ?_
  unfold inrow
  rw [h10]
  refine congrArg (· + bih g) (Finset.sum_congr rfl fun o _ => congrArg₂ (· * ·) ?_ (h9 g o))
  refine tail_row _ _ _ _ _ x2 x3 x4 x5 x6 r (kweight (fun n => top (pools (msim Z t r) 7).1 ≤ msim Z t r n) (msim Z t r) (logit Z Wq Wk t))
    (key Z t) (Z t r) (kmessage Z Wv Wq Wk t r) Wo Wr Wv lw lb (fun n => ?_) (keys_eq Z t a b c ha hb hc) hz h2 h3 h4 h5 h6 (fun d => rfl) o
  rw [hden, halves_eq Z t i ht qa qb qc hqa hqb hqc, exps_eq Z t i ht a b c qa qb qc ha hb hc hqa hqb hqc x7 x8 Wq Wk h7 h8]
  rfl

end

end Cert.KernelIdeal.Row
end
-- ==== Proof.KernelFirst.lean ====
module

public import proofs.«01_k».proof.Proof.KernelIdealRun
public import proofs.«01_k».proof.Proof.KernelBlock
public import Idealize.ShloMosaic.Lib.Pipeline.ValueKit

/-!
# The first region: the gate inputs of every step

Every grid point `(b, t)` writes the block of batch element `b` and step `t`; its row `r` is the message of that row, carried
through the layer norm and the two matrix products.
-/

@[expose] public section

set_option maxRecDepth 16384

noncomputable section

namespace Cert.KernelIdeal.First

open Idealize.ShloMosaic Idealize.ShloMosaic.TcCoe Idealize.SL.Sem
open Idealize.ShloMosaic.Pipeline (Dat)
open Cert.KernelIdeal Cert.KernelIdeal.Gen Cert.KernelIdeal.Whole Cert.Spec

/-- The block index of every window, the two coordinates of a grid point and the three places it loads from. -/
theorem idx : ∀ t : Fin cfg0.N, win0_0.index t = ![t.val / 8, 0, 0, 0] ∧ win0_1.index t = ![t.val / 8, 0, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![t.val / 8, t.val % 8, 0, 0] ∧ t.val / 8 < 4 :=
  (by decide +kernel : ∀ t : Fin grid0.N, _)

theorem offs : ∀ t : Fin cfg0.N, (grid0.coords t 1).val = t.val % 8 ∧ k0_off1 (grid0.coords t) = ![0, t.val % 8, 0, 0]
    ∧ k0_off2 (grid0.coords t) 1#32 = ![0, t.val % 8 - 1, 0, 0] ∧ k0_off2 (grid0.coords t) 2#32 = ![0, t.val % 8 - 2, 0, 0] :=
  (by decide +kernel : ∀ t : Fin grid0.N, _)

variable (m : (ℓ : Loc nD τ sig) → Buf (Elt Ideal) ℓ) (c : Dev nD)

/-- The rows of batch element `b`. -/
def rows (z : FVec Ideal S4x8x512x256 .f32) (b : Fin 4) : Steps := fun t r d => z (ix4 b t r d)

/-- The gate inputs from the argument arrays. -/
def gates (z : FVec Ideal S4x8x512x256 .f32) (Wr Wv Wo : FVec Ideal S256x256 .f32) (lw lb : FVec Ideal S256 .f32)
    (Wq Wk : FVec Ideal S256x256 .f32) (Wih : FVec Ideal S768x256 .f32) (bih : FVec Ideal S768 .f32) (b : Fin 4) (t : Fin 8) (r : Fin 512)
    (g : Fin 768) : EReal :=
  inrow (kmessage (rows z b) (fun d e => Wv (ix2 d e)) (fun d e => Wq (ix2 d e)) (fun d e => Wk (ix2 d e)) t r) (rows z b t r)
    (fun d e => Wr (ix2 d e)) (fun d e => Wo (ix2 d e)) (fun e => lw (ix1 e)) (fun e => lb (ix1 e)) (fun g e => Wih (ix2 g e))
    (fun g => bih (ix1 g)) g

/-- The gate inputs of the memory `m`. -/
def gatesOf : Fin 4 → Fin 8 → Fin 512 → Fin 768 → EReal :=
  gates (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg10))

theorem step (t : Fin cfg0.N) : t.val % 8 < 8 := Nat.mod_lt _ (by decide)

/-- A load of one step out of a batch element's eight. -/
theorem load (X : Vec Ideal S1x8x512x256 .f32) (off : Fin 4 → ℕ) (h) (s : Fin 8) (ho : off = ![0, s.val, 0, 0]) (r : Fin 512)
    (d : Fin 256) : View.ld X (Rect.unit off ![1, 1, 512, 256] h) (ix4 0 0 r d) = X (ix4 0 s r d) := by
  subst ho
  refine congrArg X (funext fun a => Fin.ext ?_)
  match a with
  | 0 => exact rfl
  | 1 => exact Nat.add_zero s.val
  | 2 => exact (Nat.zero_add _).trans (Nat.one_mul r.val)
  | 3 => exact (Nat.zero_add _).trans (Nat.one_mul d.val)

/-- The host operations keep the arguments. -/
theorem kept (r : Ref sig .tc) (h : r ∉ hostOps0_W) : atTc (V1 m) c r = m ((c : Thread nD τ).loc r) :=
  V1_of m c r h

theorem block0 (t : Fin cfg0.N) (s : Fin 8) (r : Fin 512) (d : Fin 256) : Own.K0.iblk (atTc (V1 m)) c 0 t (ix4 0 s r d)
    = rows (m ((c : Thread nD τ).loc main_arg0)) ⟨t.val / 8, (idx t).2.2.2.2.2.2.2.2.2.2.2.2⟩ s r d := by
  have e : atTc (V1 m) c (Pipeline.arrRef spec0 0) = m ((c : Thread nD τ).loc main_arg0) := kept m c main_arg0 (by decide)
  unfold rows Own.K0.iblk
  rw [e]
  blk_ext [idx t]

/-- The normalised rows, from the host operations. -/
theorem normed (b : Fin 4) (t : Fin 8) (r : Fin 512) (d : Fin 256) : (V1 m c (Proc.devRef .tc main_v7) : FVec Ideal S4x8x512x256 .f32) (ix4 b t r d)
    = nrm (rows (m ((c : Thread nD τ).loc main_arg0)) b t r) d := by
  unfold V1
  entry_read
  pointwise
  rfl

theorem block1 (t : Fin cfg0.N) (s : Fin 8) (r : Fin 512) (d : Fin 256) : Own.K0.iblk (atTc (V1 m)) c 1 t (ix4 0 s r d)
    = nrm (rows (m ((c : Thread nD τ).loc main_arg0)) ⟨t.val / 8, (idx t).2.2.2.2.2.2.2.2.2.2.2.2⟩ s r) d := by
  refine Eq.trans ?_ (normed m c _ s r d)
  unfold Own.K0.iblk
  blk_ext [idx t]

/-- A block that is its whole array. -/
theorem whole2 (t : Fin cfg0.N) (d e : Fin 256) :
    (Own.K0.iblk (atTc (V1 m)) c 2 t (ix2 d e) = m ((c : Thread nD τ).loc main_arg1) (ix2 d e)
    ∧ Own.K0.iblk (atTc (V1 m)) c 3 t (ix2 d e) = m ((c : Thread nD τ).loc main_arg2) (ix2 d e))
    ∧ Own.K0.iblk (atTc (V1 m)) c 4 t (ix2 d e) = m ((c : Thread nD τ).loc main_arg3) (ix2 d e)
    ∧ Own.K0.iblk (atTc (V1 m)) c 7 t (ix2 d e) = m ((c : Thread nD τ).loc main_arg6) (ix2 d e)
    ∧ Own.K0.iblk (atTc (V1 m)) c 8 t (ix2 d e) = m ((c : Thread nD τ).loc main_arg7) (ix2 d e) := by
  have e2 : atTc (V1 m) c (Pipeline.arrRef spec0 2) = m ((c : Thread nD τ).loc main_arg1) := kept m c main_arg1 (by decide)
  have e3 : atTc (V1 m) c (Pipeline.arrRef spec0 3) = m ((c : Thread nD τ).loc main_arg2) := kept m c main_arg2 (by decide)
  have e4 : atTc (V1 m) c (Pipeline.arrRef spec0 4) = m ((c : Thread nD τ).loc main_arg3) := kept m c main_arg3 (by decide)
  have e7 : atTc (V1 m) c (Pipeline.arrRef spec0 7) = m ((c : Thread nD τ).loc main_arg6) := kept m c main_arg6 (by decide)
  have e8 : atTc (V1 m) c (Pipeline.arrRef spec0 8) = m ((c : Thread nD τ).loc main_arg7) := kept m c main_arg7 (by decide)
  unfold Own.K0.iblk
  rw [e2, e3, e4, e7, e8]
  refine ⟨⟨?_, ?_⟩, ?_, ?_, ?_⟩ <;> blk_ext [idx t]

theorem whole9 (t : Fin cfg0.N) (g : Fin 768) (e : Fin 256) :
    Own.K0.iblk (atTc (V1 m)) c 9 t (ix2 g e) = m ((c : Thread nD τ).loc main_arg8) (ix2 g e) := by
  have e9 : atTc (V1 m) c (Pipeline.arrRef spec0 9) = m ((c : Thread nD τ).loc main_arg8) := kept m c main_arg8 (by decide)
  unfold Own.K0.iblk
  rw [e9]
  blk_ext [idx t]

/-- The vectors the host operations turned into one-row matrices. -/
theorem vecs (e : Fin 256) (g : Fin 768) :
    (V1 m c (Proc.devRef .tc main_v8) : FVec Ideal S1x256 .f32) (ix2 0 e) = m ((c : Thread nD τ).loc main_arg4) (ix1 e)
    ∧ (V1 m c (Proc.devRef .tc main_v9) : FVec Ideal S1x256 .f32) (ix2 0 e) = m ((c : Thread nD τ).loc main_arg5) (ix1 e)
    ∧ (V1 m c (Proc.devRef .tc main_v10) : FVec Ideal S1x768 .f32) (ix2 0 g) = m ((c : Thread nD τ).loc main_arg10) (ix1 g)
    ∧ (V1 m c (Proc.devRef .tc main_v11) : FVec Ideal S1x768 .f32) (ix2 0 g) = m ((c : Thread nD τ).loc main_arg11) (ix1 g)
    ∧ (V1 m c (Proc.devRef .tc main_v12) : FVec Ideal S1x256 .f32) (ix2 0 e) = m ((c : Thread nD τ).loc main_arg13) (ix1 e) := by
  unfold V1
  refine ⟨?_, ?_, ?_, ?_, ?_⟩ <;> (entry_read; pointwise)

theorem whole5 (t : Fin cfg0.N) (e : Fin 256) (g : Fin 768) :
    Own.K0.iblk (atTc (V1 m)) c 5 t (ix2 0 e) = m ((c : Thread nD τ).loc main_arg4) (ix1 e)
    ∧ Own.K0.iblk (atTc (V1 m)) c 6 t (ix2 0 e) = m ((c : Thread nD τ).loc main_arg5) (ix1 e)
    ∧ Own.K0.iblk (atTc (V1 m)) c 10 t (ix2 0 g) = m ((c : Thread nD τ).loc main_arg10) (ix1 g) := by
  have h := vecs m c e g
  refine ⟨Eq.trans ?_ h.1, Eq.trans ?_ h.2.1, Eq.trans ?_ h.2.2.1⟩ <;> unfold Own.K0.iblk <;> blk_ext [idx t]

/-- A load of the first row. -/
theorem first (X : Vec Ideal S256x256 .f32) (h) (e : Fin 256) : View.ld X (Rect.unit ![0, 0] ![1, 256] h) (ix2 0 e) = X (ix2 0 e) := by
  refine congrArg X (funext fun a => Fin.ext ?_)
  match a with
  | 0 => exact rfl
  | 1 => exact (Nat.zero_add _).trans (Nat.one_mul e.val)

/-- What point `t` leaves in its block. -/
theorem point (t : Fin cfg0.N) (r : Fin 512) (g : Fin 768) : (datA m c).after 11 t (ix4 0 0 r g)
    = gatesOf m c ⟨t.val / 8, (idx t).2.2.2.2.2.2.2.2.2.2.2.2⟩ ⟨t.val % 8, step t⟩ r g := by
  unfold datA
  rw [Own.K0.after0_11]
  unfold Own.K0.outsAt0 Own.K0.out0_A_11
  frame_out
  unfold gatesOf gates
  have h4 := (idx t).2.2.2.2.2.2.2.2.2.2.2.2
  refine Row.block_row _ _ (grid0.coords t) (Fin.ext (offs t).1) _ _ _ _ _ _ ?_ ?_ ?_ ?_ ?_ ?_ _ _ _ _ ?_ ?_ _ _ _ _ _ _ _ _ _ _ _ _ _ _ ?_ ?_ ?_ ?_ ?_ ?_ ?_ r g
  · exact fun r d => (load _ _ _ ⟨t.val % 8, step t⟩ (offs t).2.1 r d).trans (block0 m c t _ r d)
  · exact fun r d => (load _ _ _ (prev ⟨t.val % 8, step t⟩ 1) (offs t).2.2.1 r d).trans (block0 m c t _ r d)
  · exact fun r d => (load _ _ _ (prev ⟨t.val % 8, step t⟩ 2) (offs t).2.2.2 r d).trans (block0 m c t _ r d)
  · exact fun r d => (load _ _ _ ⟨t.val % 8, step t⟩ (offs t).2.1 r d).trans (block1 m c t _ r d)
  · exact fun r d => (load _ _ _ (prev ⟨t.val % 8, step t⟩ 1) (offs t).2.2.1 r d).trans (block1 m c t _ r d)
  · exact fun r d => (load _ _ _ (prev ⟨t.val % 8, step t⟩ 2) (offs t).2.2.2 r d).trans (block1 m c t _ r d)
  · exact fun e => (first _ _ e).trans (whole2 m c t 0 e).2.2.1
  · exact fun o e => (whole2 m c t o e).2.2.2
  · exact fun d e => (whole2 m c t d e).1.1
  · exact fun d e => (whole2 m c t d e).1.2
  · exact fun d e => (whole2 m c t d e).2.1
  · exact fun e => (whole5 m c t e 0).1
  · exact fun e => (whole5 m c t e 0).2.1
  · exact fun g e => whole9 m c t g e
  · exact fun g => (whole5 m c t 0 g).2.2

/-- The array the first region leaves. -/
theorem final (b : Fin 4) (t : Fin 8) (r : Fin 512) (g : Fin 768) :
    ((datA m c).arrAt 11 cfg0.N : FVec Ideal S4x8x512x768 .bf16) (ix4 b t r g)
    = gatesOf m c b t r g := by
  refine congrFun ((datA m c).arrAt_eq_of_covers 11 (fun i : S4x8x512x768.Idx => gatesOf m c (i 0) (i 1) (i 2) (i 3)) (by decide +kernel) fun t _ y => ?_) (ix4 b t r g)
  blk_simp
  have hy : y = ix4 0 0 (y 2) (y 3) := by
    funext a
    match a with
    | 0 => exact Fin.ext (Nat.lt_one_iff.1 (y 0).isLt)
    | 1 => exact Fin.ext (Nat.lt_one_iff.1 (y 1).isLt)
    | 2 => rfl
    | 3 => rfl
  refine ((congrArg ((datA m c).after 11 t) hy).trans (point m c t (y 2) (y 3))).trans ?_
  have h0 : (⟨t.val / 8, (idx t).2.2.2.2.2.2.2.2.2.2.2.2⟩ : Fin 4) = (win0_11.blk t).view.emb y 0 := Fin.ext (by blk_simp [idx t])
  have h1 : (⟨t.val % 8, step t⟩ : Fin 8) = (win0_11.blk t).view.emb y 1 := Fin.ext (by blk_simp [idx t])
  have h2 : (y 2 : Fin 512) = (win0_11.blk t).view.emb y 2 := Fin.ext (by blk_simp [idx t])
  have h3 : (y 3 : Fin 768) = (win0_11.blk t).view.emb y 3 := Fin.ext (by blk_simp [idx t])
  exact congr (congr (congr (congrArg (gatesOf m c) h0) h1) h2) h3

end Cert.KernelIdeal.First
end
-- ==== Proof.KernelSecond.lean ====
module

public import proofs.«01_k».proof.Proof.KernelIdealRun
public import proofs.«01_k».proof.Proof.KernelFirst
public import Idealize.ShloMosaic.Lib.Pipeline.ValueKit

/-!
# The second region: the recurrence and the output

Point `t` reads the memory the point before it left (zeros at the first), takes one recurrent step from the gate inputs of step
`t`, and writes the output of that step and the memory.
-/

@[expose] public section

set_option maxRecDepth 16384

noncomputable section

namespace Cert.KernelIdeal.Second

open Idealize.ShloMosaic Idealize.ShloMosaic.TcCoe Idealize.SL.Sem
open Idealize.ShloMosaic.Pipeline (Dat)
open Cert.KernelIdeal Cert.KernelIdeal.Gen Cert.KernelIdeal.Whole Cert.KernelIdeal.Gru Cert.Spec

variable (V : (c : Dev nD) → (b : Ref sig .tc) → Buf (Elt Ideal) ((c : Thread nD τ).loc b)) (c : Dev nD)

/-- What a point leaves, from the memory it reads. -/
def left (mem : Vec Ideal S2048x256 .f32) (t : Fin cfg1.N) : Vec Ideal S4x1x512x256 .f32 × Vec Ideal S4x512x256 .f32 × Vec Ideal S2048x256 .f32 :=
  (k1_pay1 (k1_pay4 mem (iblk V c 0 t) (iblk V c 2 t) (iblk V c 3 t)) (k1_pay6 (iblk V c 1 t)) (iblk V c 4 t) (iblk V c 5 t),
    k1_pay2 (k1_pay4 mem (iblk V c 0 t) (iblk V c 2 t) (iblk V c 3 t)), k1_pay5 mem (iblk V c 0 t) (iblk V c 2 t) (iblk V c 3 t))

theorem left_A (t : Fin cfg1.N) (h0 : t.val % 8 = 0) : outsAt1 V c t.val t.isLt = left V c (k1_pay3 (F := Ideal)) t := by
  rw [outsAt1_A V c t h0]
  refine Prod.ext ?_ (Prod.ext ?_ ?_)
  · unfold left out1_A_6
    dsimp only
    frame_out
  · unfold left out1_A_7
    dsimp only
    frame_out
  · unfold left sout1_A_0
    dsimp only
    frame_out

theorem left_B (t : Fin cfg1.N) (h0 : ¬t.val % 8 = 0) : outsAt1 V c t.val t.isLt
    = left V c (outsAt1 V c (t.val - 1) (Nat.lt_of_le_of_lt (Nat.sub_le _ _) t.isLt)).2.2 t := by
  rw [outsAt1_B V c t h0]
  refine Prod.ext ?_ (Prod.ext ?_ ?_)
  · unfold left out1_B_6
    dsimp only
    frame_out
    rw [(Memref.isWhole_whole cc1_scratch0).read_unread]
  · unfold left out1_B_7
    dsimp only
    frame_out
    rw [(Memref.isWhole_whole cc1_scratch0).read_unread]
  · unfold left sout1_B_0
    dsimp only
    frame_out
    rw [(Memref.isWhole_whole cc1_scratch0).read_unread]

/-- The memory array has one line for each row of each batch element. -/
def hi (ρ : Fin 2048) : Fin 4 := ⟨ρ.val / 512, by omega⟩
def lo (ρ : Fin 2048) : Fin 512 := ⟨ρ.val % 512, by omega⟩
def line (b : Fin 4) (r : Fin 512) : Fin 2048 := ⟨b.val * 512 + r.val, by omega⟩
theorem hi_line (b : Fin 4) (r : Fin 512) : hi (line b r) = b := Fin.ext (by simp only [hi, line]; omega)
theorem lo_line (b : Fin 4) (r : Fin 512) : lo (line b r) = r := Fin.ext (by simp only [lo, line]; omega)

section Step

variable (mem : Vec Ideal S2048x256 .f32) (v4 : Vec Ideal S4x1x512x768 .bf16) (v8 : Vec Ideal S768x256 .f32) (v10 : Vec Ideal S1x768 .f32)
  (gi : Fin 4 → Fin 512 → Fin 768 → EReal) (Whh : Fin 768 → Row) (bhh : Fin 768 → EReal) (M : Fin 4 → Fin 512 → Row)
  (h4 : ∀ b r g, v4 (ix4 b 0 r g) = gi b r g) (h8 : ∀ g e, v8 (ix2 g e) = Whh g e) (h10 : ∀ g, v10 (ix2 0 g) = bhh g)
  (hM : ∀ ρ d, mem (ix2 ρ d) = M (hi ρ) (lo ρ) d)

include h4 h8 h10 hM in
theorem step_row (ρ : Fin 2048) (d : Fin 256) : k1_pay4 mem v4 v8 v10 (ix2 ρ d)
    = gru (gi (hi ρ) (lo ρ)) (memrow (M (hi ρ) (lo ρ)) Whh bhh) (M (hi ρ) (lo ρ)) d := by
  simp only [← hM, ← h4, ← h8, ← h10, gru, memrow, show (fun d => mem (ix2 ρ d)) = fun d => M (hi ρ) (lo ρ) d from funext (hM ρ)]
  pointwise [k1_pay4]
  rfl

theorem keep_row (v31 : FVec Ideal S2048x256 .f32) (b : Fin 4) (r : Fin 512) (d : Fin 256) :
    k1_pay2 v31 (ix3 b r d) = v31 (ix2 (line b r) d) := by
  pointwise [k1_pay2]
  rfl

theorem same_row (ρ : Fin 2048) (d : Fin 256) : k1_pay5 mem v4 v8 v10 (ix2 ρ d) = k1_pay4 mem v4 v8 v10 (ix2 ρ d) := by
  pointwise [k1_pay5]

theorem zero_row (ρ : Fin 2048) (d : Fin 256) : k1_pay3 (F := Ideal) (ix2 ρ d) = (0 : EReal) := by
  pointwise [k1_pay3]

theorem give_row (v31 : FVec Ideal S2048x256 .f32) (x : Vec Ideal S4x1x512x256 .f32) (v37 : Vec Ideal S256x256 .f32)
    (v40 : Vec Ideal S1x256 .f32) (b : Fin 4) (r : Fin 512) (d : Fin 256) : k1_pay1 v31 (k1_pay6 x) v37 v40 (ix4 b 0 r d)
    = x (ix4 b 0 r d) + ∑ e, v31 (ix2 (line b r) e) * v37 (ix2 d e) + v40 (ix2 0 d) := by
  pointwise [k1_pay1, k1_pay6]
  rfl

end Step

/-- The block indices of every window. -/
theorem idx : ∀ t : Fin cfg1.N, win1_0.index t = ![0, t.val, 0, 0] ∧ win1_1.index t = ![0, t.val, 0, 0] ∧ win1_2.index t = ![0, 0]
    ∧ win1_3.index t = ![0, 0] ∧ win1_4.index t = ![0, 0] ∧ win1_5.index t = ![0, 0] ∧ win1_6.index t = ![0, t.val, 0, 0]
    ∧ win1_7.index t = ![0, 0, 0] ∧ t.val < 8 :=
  (by decide +kernel : ∀ t : Fin grid1.N, _)

theorem flushed : ∀ t : Fin cfg1.N, (cfg1.win 7).flush t = true → t.val = 7 :=
  (by decide +kernel : ∀ t : Fin grid1.N, _)

theorem lt8 (t : Fin cfg1.N) : t.val < 8 := (idx t).2.2.2.2.2.2.2.2

variable (m : (ℓ : Loc nD τ sig) → Buf (Elt Ideal) ℓ)

/-- The first region keeps what it does not write. -/
theorem keptA (r : Ref sig .tc) (h : ∀ w, Pipeline.arrRef spec0 w = r → (cfg0.win w).isOut = false) : atTc (VA m) c r = V1 m c (Proc.devRef .tc r) :=
  Pipeline.afterRegion_keeps (datA m c) (V1 m c) launch0.win.arr_inj (fun w => Own.K0.A_eq Variants.none (atTc (V1 m)) 0 c w) r h

theorem block0 (t : Fin cfg1.N) (b : Fin 4) (r : Fin 512) (g : Fin 768) : iblk (atTc (VA m)) c 0 t (ix4 b 0 r g)
    = First.gatesOf m c b ⟨t.val, lt8 t⟩ r g := by
  have e : atTc (VA m) c (Pipeline.arrRef spec1 0) = (datA m c).arrAt 11 cfg0.N :=
    Pipeline.afterRegion_arr (datA m c) (V1 m c) launch0.win.arr_inj 11
  refine Eq.trans ?_ (First.final m c b ⟨t.val, lt8 t⟩ r g)
  unfold iblk
  rw [e]
  blk_ext [idx t]

theorem blocks (t : Fin cfg1.N) (b : Fin 4) (r : Fin 512) (g : Fin 768) (d e : Fin 256) :
    iblk (atTc (VA m)) c 1 t (ix4 b 0 r d) = First.rows (m ((c : Thread nD τ).loc main_arg0)) b ⟨t.val, lt8 t⟩ r d
    ∧ iblk (atTc (VA m)) c 2 t (ix2 g d) = m ((c : Thread nD τ).loc main_arg9) (ix2 g d)
    ∧ iblk (atTc (VA m)) c 4 t (ix2 d e) = m ((c : Thread nD τ).loc main_arg12) (ix2 d e) := by
  have e1 : atTc (VA m) c (Pipeline.arrRef spec1 1) = m ((c : Thread nD τ).loc main_arg0) :=
    (keptA c m main_arg0 (by decide)).trans (First.kept m c main_arg0 (by decide))
  have e2 : atTc (VA m) c (Pipeline.arrRef spec1 2) = m ((c : Thread nD τ).loc main_arg9) :=
    (keptA c m main_arg9 (by decide)).trans (First.kept m c main_arg9 (by decide))
  have e4 : atTc (VA m) c (Pipeline.arrRef spec1 4) = m ((c : Thread nD τ).loc main_arg12) :=
    (keptA c m main_arg12 (by decide)).trans (First.kept m c main_arg12 (by decide))
  unfold iblk First.rows
  rw [e1, e2, e4]
  refine ⟨?_, ?_, ?_⟩ <;> blk_ext [idx t]

theorem biases (t : Fin cfg1.N) (g : Fin 768) (d : Fin 256) :
    iblk (atTc (VA m)) c 3 t (ix2 0 g) = m ((c : Thread nD τ).loc main_arg11) (ix1 g)
    ∧ iblk (atTc (VA m)) c 5 t (ix2 0 d) = m ((c : Thread nD τ).loc main_arg13) (ix1 d) := by
  have e3 : atTc (VA m) c (Pipeline.arrRef spec1 3) = V1 m c (Proc.devRef .tc main_v11) := keptA c m main_v11 (by decide)
  have e5 : atTc (VA m) c (Pipeline.arrRef spec1 5) = V1 m c (Proc.devRef .tc main_v12) := keptA c m main_v12 (by decide)
  have h := First.vecs m c d g
  refine ⟨Eq.trans ?_ h.2.2.2.1, Eq.trans ?_ h.2.2.2.2⟩ <;> unfold iblk
  · rw [e3]
    blk_ext [idx t]
  · rw [e5]
    blk_ext [idx t]

/-- The memory of a row before step `n`. -/
def mems (b : Fin 4) (r : Fin 512) : ℕ → Row :=
  memory (fun n => First.gatesOf m c b ⟨n % 8, Nat.mod_lt _ (by decide)⟩ r) (fun g e => m ((c : Thread nD τ).loc main_arg9) (ix2 g e))
    (fun g => m ((c : Thread nD τ).loc main_arg11) (ix1 g))

/-- A step from the memory before it. -/
theorem next (t : Fin cfg1.N) (mem : Vec Ideal S2048x256 .f32) (hM : ∀ ρ d, mem (ix2 ρ d) = mems c m (hi ρ) (lo ρ) t.val d) (ρ : Fin 2048)
    (d : Fin 256) : k1_pay4 mem (iblk (atTc (VA m)) c 0 t) (iblk (atTc (VA m)) c 2 t) (iblk (atTc (VA m)) c 3 t) (ix2 ρ d)
    = mems c m (hi ρ) (lo ρ) (t.val + 1) d := by
  refine (step_row mem _ _ _ (fun b r g => First.gatesOf m c b ⟨t.val, lt8 t⟩ r g) (fun g e => m ((c : Thread nD τ).loc main_arg9) (ix2 g e))
    (fun g => m ((c : Thread nD τ).loc main_arg11) (ix1 g)) (fun b r => mems c m b r t.val) (fun b r g => block0 c m t b r g)
    (fun g e => (blocks c m t 0 0 g e 0).2.1) (fun g => (biases c m t g 0).1) hM ρ d).trans ?_
  have h : (⟨t.val, lt8 t⟩ : Fin 8) = ⟨t.val % 8, Nat.mod_lt _ (by decide)⟩ := Fin.ext (Nat.mod_eq_of_lt (lt8 t)).symm
  rw [h]
  rfl

/-- The memory a point reads. -/
theorem reads (n : ℕ) (hn : n < cfg1.N) : ∃ mem : Vec Ideal S2048x256 .f32, (∀ ρ d, mem (ix2 ρ d) = mems c m (hi ρ) (lo ρ) n d)
    ∧ outsAt1 (atTc (VA m)) c n hn = left (atTc (VA m)) c mem ⟨n, hn⟩ := by
  induction n with
  | zero => exact ⟨_, fun ρ d => zero_row ρ d, left_A (atTc (VA m)) c ⟨0, hn⟩ (Nat.zero_mod _)⟩
  | succ n ih =>
    obtain ⟨mem, hM, hl⟩ := ih (Nat.lt_of_succ_lt hn)
    have h8 := lt8 ⟨n + 1, hn⟩
    refine ⟨_, fun ρ d => ?_, left_B (atTc (VA m)) c ⟨n + 1, hn⟩ (fun h => by
      have h' : (n + 1) % 8 = 0 := h
      have h8' : n + 1 < 8 := h8
      omega)⟩
    refine Eq.trans (congrFun (congrArg (fun p => p.2.2) hl) (ix2 ρ d)) ?_
    exact (same_row mem _ _ _ ρ d).trans (next c m ⟨n, Nat.lt_of_succ_lt hn⟩ mem hM ρ d)

/-- The output from the argument arrays. -/
def outs (b : Fin 4) (t : Fin 8) (r : Fin 512) (d : Fin 256) : EReal :=
  outrow (First.rows (m ((c : Thread nD τ).loc main_arg0)) b t r) (mems c m b r (t.val + 1))
    (fun d e => m ((c : Thread nD τ).loc main_arg12) (ix2 d e)) (fun d => m ((c : Thread nD τ).loc main_arg13) (ix1 d)) d

theorem point_h (t : Fin cfg1.N) (b : Fin 4) (r : Fin 512) (d : Fin 256) :
    (datB m c).after 6 t (ix4 b 0 r d) = outs c m b ⟨t.val, lt8 t⟩ r d := by
  obtain ⟨mem, hM, hl⟩ := reads c m t.val t.isLt
  unfold datB
  rw [Gru.after1_6, hl]
  refine (give_row _ _ _ _ b r d).trans ?_
  unfold outs outrow
  refine congrArg₂ (· + ·) (congrArg₂ (· + ·) (blocks c m t b r 0 d 0).1 (Finset.sum_congr rfl fun e _ =>
    congrArg₂ (· * ·) ((next c m t mem hM _ e).trans ?_) (blocks c m t 0 0 0 d e).2.2)) (biases c m t 0 d).2
  rw [hi_line, lo_line]

theorem point_mem (t : Fin cfg1.N) (b : Fin 4) (r : Fin 512) (d : Fin 256) :
    (datB m c).after 7 t (ix3 b r d) = mems c m b r (t.val + 1) d := by
  obtain ⟨mem, hM, hl⟩ := reads c m t.val t.isLt
  unfold datB
  rw [Gru.after1_7, hl]
  refine (keep_row _ b r d).trans ((next c m t mem hM _ d).trans ?_)
  rw [hi_line, lo_line]

/-- The output array. -/
theorem final_h (b : Fin 4) (t : Fin 8) (r : Fin 512) (d : Fin 256) :
    ((datB m c).arrAt 6 cfg1.N : FVec Ideal S4x8x512x256 .f32) (ix4 b t r d) = outs c m b t r d := by
  refine congrFun ((datB m c).arrAt_eq_of_covers 6 (fun i : S4x8x512x256.Idx => outs c m (i 0) (i 1) (i 2) (i 3))
    (by decide +kernel) fun t _ y => ?_) (ix4 b t r d)
  blk_simp
  have hy : y = ix4 (y 0) 0 (y 2) (y 3) := by
    funext a
    match a with
    | 0 => rfl
    | 1 => exact Fin.ext (Nat.lt_one_iff.1 (y 1).isLt)
    | 2 => rfl
    | 3 => rfl
  have h0 : (y 0 : Fin 4) = (win1_6.blk t).view.emb y 0 := Fin.ext (by blk_simp [idx t])
  have h1 : (⟨t.val, lt8 t⟩ : Fin 8) = (win1_6.blk t).view.emb y 1 := Fin.ext (by blk_simp [idx t])
  have h2 : (y 2 : Fin 512) = (win1_6.blk t).view.emb y 2 := Fin.ext (by blk_simp [idx t])
  have h3 : (y 3 : Fin 256) = (win1_6.blk t).view.emb y 3 := Fin.ext (by blk_simp [idx t])
  refine ((congrArg ((datB m c).after 6 t) hy).trans (point_h c m t (y 0) (y 2) (y 3))).trans ?_
  exact congr (congr (congr (congrArg (outs c m) h0) h1) h2) h3

/-- The last memory. -/
theorem final_mem (b : Fin 4) (r : Fin 512) (d : Fin 256) :
    ((datB m c).arrAt 7 cfg1.N : FVec Ideal S4x512x256 .f32) (ix3 b r d) = mems c m b r 8 d := by
  refine congrFun ((datB m c).arrAt_eq_of_covers 7 (fun i : S4x512x256.Idx => mems c m (i 0) (i 1) 8 (i 2))
    (by decide +kernel) fun t hf y => ?_) (ix3 b r d)
  blk_simp
  have hy : y = ix3 (y 0) (y 1) (y 2) := by
    funext a
    match a with
    | 0 => rfl
    | 1 => rfl
    | 2 => rfl
  have h0 : (y 0 : Fin 4) = (win1_7.blk t).view.emb y 0 := Fin.ext (by blk_simp [idx t])
  have h1 : (y 1 : Fin 512) = (win1_7.blk t).view.emb y 1 := Fin.ext (by blk_simp [idx t])
  have h2 : (y 2 : Fin 256) = (win1_7.blk t).view.emb y 2 := Fin.ext (by blk_simp [idx t])
  refine ((congrArg ((datB m c).after 7 t) hy).trans (point_mem c m t (y 0) (y 1) (y 2))).trans ?_
  exact congr (congr (congr (congrArg (mems c m) h0) h1) (congrArg (· + 1) (flushed t hf))) h2

end Cert.KernelIdeal.Second
end
-- ==== Proof.RefMessage.lean ====
module

public import proofs.«01_k».proof.Proof.Gen.ReferenceIdeal.Read
public import proofs.«01_k».proof.Proof.Spec
public import proofs.«01_k».proof.Proof.TopK
public import proofs.«01_k».proof.Proof.RowMath
public import Idealize.ShloMosaic.Lib.Pointwise

/-!
# The reference's messages, read at an index

The reference forms the messages of the first step, of the second and of the six others apart, since they see one, two and three
steps of keys.  All three read as the same message.
-/

@[expose] public section

set_option maxRecDepth 16384

noncomputable section

namespace Cert.ReferenceIdeal.Message

open Idealize.ShloMosaic Idealize.ShloMosaic.TcCoe
open Cert.ReferenceIdeal Cert.ReferenceIdeal.Gen Cert.ReferenceIdeal.Read Cert.Spec

section Picks

variable (Z : Steps) (τ : Fin 8) (r : Fin 512) (T N : ℕ) (hN : N = seen τ) (hN' : N ≤ 1536) (h8 : 8 ≤ N)

include hN in
theorem pick_of (k : Fin 8) : (ord (fun n : Fin N => sim Z τ r (n.castLE hN')) (k.castLE h8)).castLE hN' = pick Z τ r k := by
  subst hN
  rfl

variable (x : FVec Ideal ⟨4, ![4, T, 512, N]⟩ .f32) (b : Fin 4) (t : Fin T) (hx : ∀ n : Fin N, x (ix4 b t r n) = sim Z τ r (n.castLE hN'))

include hN h8 hx in
/-- The values taken. -/
theorem values_of (h) (k : Fin 8) :
    (Host.topK (s := ⟨4, ![4, T, 512, N]⟩) ⟨4, ![4, T, 512, 8]⟩ 3 (FloatOps.cmpfTotal (F := Ideal) .gt) x h).1 (ix4 b t r k)
      = sim Z τ r (pick Z τ r k) := by
  rw [topK_val x h b t r k h8, hx, ← pick_of Z τ r N hN hN' h8 k, show (fun n => x (ix4 b t r n)) = _ from funext hx]

include hN h8 hx in
/-- The keys taken. -/
theorem keys_of (h) (k : Fin 8) (wf) (K : FVec Ideal ⟨4, ![4, T, N, 256]⟩ .f32) (idx : IVec ⟨5, ![4, T, 512, 8, 1]⟩ 32) (w : BitVec 32)
    (d : Fin 256) (hK : ∀ n : Fin N, K (ix4 b t n d) = key Z τ (n.castLE hN') d)
    (hi : idx (ix5 b t r k 0) = Scalar.select (IntOp.cmpi .slt
      ((Host.topK (s := ⟨4, ![4, T, 512, N]⟩) ⟨4, ![4, T, 512, 8]⟩ 3 (FloatOps.cmpfTotal (F := Ideal) .gt) x h).2 (ix4 b t r k)) 0#32) w
      ((Host.topK (s := ⟨4, ![4, T, 512, N]⟩) ⟨4, ![4, T, 512, 8]⟩ 3 (FloatOps.cmpfTotal (F := Ideal) .gt) x h).2 (ix4 b t r k))) :
    Host.gather (s := ⟨4, ![4, T, N, 256]⟩) (si := ⟨5, ![4, T, 512, 8, 1]⟩) (t := ⟨5, ![4, T, 512, 8, 256]⟩)
      ⟨[4], [2], [0, 1], [0, 1], [2], 4, ![1, 1, 1, 256], wf⟩ K idx (ix5 b t r k d) = key Z τ (pick Z τ r k) d := by
  rw [topK_idx x h b t r k h8, wrap_word _ (by omega)] at hi
  rw [gather_row wf K idx b t r k d _ (by omega) hi, hK, ← pick_of Z τ r N hN hN' h8 k, show (fun n => x (ix4 b t r n)) = _ from funext hx]

end Picks

variable (x0 : FVec Ideal S4x8x512x256 .f32) (x2 x6 x7 : FVec Ideal S256x256 .f32) (b : Fin 4)

/-- The rows of a batch element. -/
def rows : Steps := fun t r d => x0 (ix4 b t r d)

/-- The message the reference forms. -/
def msg (t : Fin 8) (r : Fin 512) : Row :=
  rmessage (rows x0 b) (fun d e => x2 (ix2 d e)) (fun d e => x6 (ix2 d e)) (fun d e => x7 (ix2 d e)) t r

/-- A row that stands where key `n` is taken from. -/
theorem row_key (τ : Fin 8) (n : Fin 1536) (s : Fin 8) (q : Fin 512) (d : Fin 256) (hs : s.val = τ.val - n.val / 512) (hq : q.val = n.val % 512) :
    x0 (ix4 b s q d) = key (rows x0 b) τ n d := by
  unfold key rows
  rw [show s = prev τ (n.val / 512) from Fin.ext hs, show q = ⟨n.val % 512, Nat.mod_lt _ (by decide)⟩ from Fin.ext hq]

/-! ## The first step -/

theorem keyA (n : Fin 512) (d : Fin 256) : val_main_v1 (F := Ideal) x0 (ix4 b 0 n d) = key (rows x0 b) 0 (n.castLE (by decide)) d := by
  pointwise [val_main_v1]
  exact row_key x0 b 0 _ 0 n d (by simp) (by simp only [Fin.val_castLE]; omega)

theorem simA (r : Fin 512) (n : Fin 512) : val_main_v27 (F := Ideal) x0 (ix4 b 0 r n) = sim (rows x0 b) 0 r (n.castLE (by decide)) := by
  unfold sim
  simp only [nrm, ← keyA]
  pointwise [val_main_v0, val_main_v1, val_main_v11, val_main_v12, val_main_v13, val_main_v14, val_main_v15, val_main_v16, val_main_v17, val_main_v18,
    val_main_v19, val_main_v20, val_main_v21, val_main_v22, val_main_v23, val_main_v24, val_main_v25, val_main_v26,
    val_main_v27, val_main_cst, val_main_cst_0, val_main_cst_1, val_main_cst_2]
  rfl

theorem msgA (r : Fin 512) (d : Fin 256) : val_main_v68 (F := Ideal) x0 x2 x6 x7 (ix4 b 0 r d) = msg x0 x2 x6 x7 b 0 r d := by
  have hV : ∀ k, val_main_values (F := Ideal) x0 (ix4 b 0 r k) = sim (rows x0 b) 0 r (pick (rows x0 b) 0 r k) := fun k =>
    values_of (rows x0 b) 0 r 1 512 rfl (by decide) (by decide) _ b 0 (simA x0 b r) _ k
  have hG : ∀ k e, val_main_v34 (F := Ideal) x0 (ix5 b 0 r k e) = key (rows x0 b) 0 (pick (rows x0 b) 0 r k) e := fun k e =>
    keys_of (rows x0 b) 0 r 1 512 rfl (by decide) (by decide) _ b 0 (simA x0 b r) _ k _ _ _ _ e
      (fun n => keyA x0 b n e) (by pointwise [val_main_v28, val_main_v29, val_main_v30, val_main_v31, val_main_v32, val_main_v33, val_main_c, val_main_c_3]; rfl)
  pointwise [val_main_v0, val_main_v35, val_main_v36, val_main_v37, val_main_v38, val_main_v39, val_main_v40, val_main_v41, val_main_v42,
    val_main_v43, val_main_v44, val_main_v45, val_main_v46, val_main_v47, val_main_v48, val_main_v49, val_main_v50,
    val_main_v51, val_main_v52, val_main_v53, val_main_v54, val_main_v55, val_main_v56, val_main_v57, val_main_v58,
    val_main_v59, val_main_v60, val_main_v61, val_main_v62, val_main_v63, val_main_v64, val_main_v65, val_main_v66,
    val_main_v67, val_main_v68, val_main_cst_4, val_main_cst_5, val_main_cst_6, val_main_cst_7, val_main_cst_8, val_main_cst_9,
    val_main_cst_10]
  simp only [hV, hG, bot_word, mul_comm (key _ _ _ _) (x7 _)]
  rfl

/-! ## The second step -/

theorem keyB (n : Fin 1024) (d : Fin 256) : val_main_v5 (F := Ideal) x0 (ix4 b 0 n d) = key (rows x0 b) 1 (n.castLE (by decide)) d := by
  pointwise [val_main_v5, val_main_v4, val_main_v3]
  split
  · exact row_key x0 b 1 _ 1 _ d (by simp only [Fin.val_castLE, Fin.val_one]; omega) (by simp only [Fin.val_castLE]; omega)
  · exact row_key x0 b 1 _ 0 _ d (by simp only [Fin.val_castLE, Fin.val_one, Fin.val_zero]; omega) (by simp only [Fin.val_castLE]; omega)

theorem simB (r : Fin 512) (n : Fin 1024) : val_main_v85 (F := Ideal) x0 (ix4 b 0 r n) = sim (rows x0 b) 1 r (n.castLE (by decide)) := by
  unfold sim
  simp only [nrm, ← keyB]
  pointwise [val_main_v2, val_main_v69, val_main_v70, val_main_v71, val_main_v72, val_main_v73, val_main_v74, val_main_v75, val_main_v76,
    val_main_v77, val_main_v78, val_main_v79, val_main_v80, val_main_v81, val_main_v82, val_main_v83, val_main_v84,
    val_main_v85, val_main_cst_11, val_main_cst_12, val_main_cst_13, val_main_cst_14]
  rfl

theorem msgB (r : Fin 512) (d : Fin 256) : val_main_v126 (F := Ideal) x0 x2 x6 x7 (ix4 b 0 r d) = msg x0 x2 x6 x7 b 1 r d := by
  have hV : ∀ k, val_main_values_15 (F := Ideal) x0 (ix4 b 0 r k) = sim (rows x0 b) 1 r (pick (rows x0 b) 1 r k) := fun k =>
    values_of (rows x0 b) 1 r 1 1024 rfl (by decide) (by decide) _ b 0 (simB x0 b r) _ k
  have hG : ∀ k e, val_main_v92 (F := Ideal) x0 (ix5 b 0 r k e) = key (rows x0 b) 1 (pick (rows x0 b) 1 r k) e := fun k e =>
    keys_of (rows x0 b) 1 r 1 1024 rfl (by decide) (by decide) _ b 0 (simB x0 b r) _ k _ _ _ _ e
      (fun n => keyB x0 b n e) (by pointwise [val_main_v86, val_main_v87, val_main_v88, val_main_v89, val_main_v90, val_main_v91, val_main_c_17, val_main_c_18]; rfl)
  pointwise [val_main_v2, val_main_v93, val_main_v94, val_main_v95, val_main_v96, val_main_v97, val_main_v98, val_main_v99, val_main_v100,
    val_main_v101, val_main_v102, val_main_v103, val_main_v104, val_main_v105, val_main_v106, val_main_v107, val_main_v108,
    val_main_v109, val_main_v110, val_main_v111, val_main_v112, val_main_v113, val_main_v114, val_main_v115, val_main_v116,
    val_main_v117, val_main_v118, val_main_v119, val_main_v120, val_main_v121, val_main_v122, val_main_v123, val_main_v124,
    val_main_v125, val_main_v126, val_main_cst_19, val_main_cst_20, val_main_cst_21, val_main_cst_22, val_main_cst_23,
    val_main_cst_24, val_main_cst_25]
  simp only [hV, hG, bot_word, mul_comm (key _ _ _ _) (x7 _)]
  rfl

/-! ## The later steps -/

/-- The steps from the third on. -/
def later (i : Fin 6) : Fin 8 := ⟨2 + i.val, by omega⟩

theorem seen_later (i : Fin 6) : 1536 = seen (later i) := by
  have : min (later i).val 2 = 2 := by simp only [later]; omega
  unfold seen
  rw [this]

theorem keyC (i : Fin 6) (n : Fin 1536) (d : Fin 256) : val_main_v10 (F := Ideal) x0 (ix4 b i n d) = key (rows x0 b) (later i) (n.castLE (by decide)) d := by
  pointwise [val_main_v10, val_main_v9, val_main_v8, val_main_v7]
  split
  · exact row_key x0 b (later i) _ _ _ d (by simp only [Fin.val_castLE, later]; omega) (by simp only [Fin.val_castLE]; omega)
  split
  · exact row_key x0 b (later i) _ _ _ d (by simp only [Fin.val_castLE, later]; omega) (by simp only [Fin.val_castLE]; omega)
  · exact row_key x0 b (later i) _ _ _ d (by simp only [Fin.val_castLE, later]; omega) (by simp only [Fin.val_castLE]; omega)

theorem simC (i : Fin 6) (r : Fin 512) (n : Fin 1536) : val_main_v143 (F := Ideal) x0 (ix4 b i r n) = sim (rows x0 b) (later i) r (n.castLE (by decide)) := by
  unfold sim
  simp only [nrm, ← keyC]
  pointwise [val_main_v6, val_main_v127, val_main_v128, val_main_v129, val_main_v130, val_main_v131, val_main_v132, val_main_v133,
    val_main_v134, val_main_v135, val_main_v136, val_main_v137, val_main_v138, val_main_v139, val_main_v140, val_main_v141,
    val_main_v142, val_main_v143, val_main_cst_26, val_main_cst_27, val_main_cst_28, val_main_cst_29]
  rfl

theorem msgC (i : Fin 6) (r : Fin 512) (d : Fin 256) : val_main_v184 (F := Ideal) x0 x2 x6 x7 (ix4 b i r d) = msg x0 x2 x6 x7 b (later i) r d := by
  have hV : ∀ k, val_main_values_30 (F := Ideal) x0 (ix4 b i r k) = sim (rows x0 b) (later i) r (pick (rows x0 b) (later i) r k) := fun k =>
    values_of (rows x0 b) (later i) r 6 1536 (seen_later i) (by decide) (by decide) _ b i (simC x0 b i r) _ k
  have hG : ∀ k e, val_main_v150 (F := Ideal) x0 (ix5 b i r k e) = key (rows x0 b) (later i) (pick (rows x0 b) (later i) r k) e := fun k e =>
    keys_of (rows x0 b) (later i) r 6 1536 (seen_later i) (by decide) (by decide) _ b i (simC x0 b i r) _ k _ _ _ _ e
      (fun n => keyC x0 b i n e) (by pointwise [val_main_v144, val_main_v145, val_main_v146, val_main_v147, val_main_v148, val_main_v149, val_main_c_32, val_main_c_33]; rfl)
  pointwise [val_main_v6, val_main_v151, val_main_v152, val_main_v153, val_main_v154, val_main_v155, val_main_v156, val_main_v157,
    val_main_v158, val_main_v159, val_main_v160, val_main_v161, val_main_v162, val_main_v163, val_main_v164, val_main_v165,
    val_main_v166, val_main_v167, val_main_v168, val_main_v169, val_main_v170, val_main_v171, val_main_v172, val_main_v173,
    val_main_v174, val_main_v175, val_main_v176, val_main_v177, val_main_v178, val_main_v179, val_main_v180, val_main_v181,
    val_main_v182, val_main_v183, val_main_v184, val_main_cst_34, val_main_cst_35, val_main_cst_36, val_main_cst_37,
    val_main_cst_38, val_main_cst_39, val_main_cst_40]
  simp only [hV, hG, bot_word, mul_comm (key _ _ _ _) (x7 _)]
  rfl

end Cert.ReferenceIdeal.Message
end
-- ==== Proof.RefTail.lean ====
module

public import proofs.«01_k».proof.Proof.RefMessage

/-!
# The rest of the reference, read at an index

The messages of all steps side by side, the layer norm and the two products after it, the eight recurrent steps and the output.
-/

@[expose] public section

set_option maxRecDepth 16384

noncomputable section

namespace Cert.ReferenceIdeal.Tail

open Idealize.ShloMosaic Idealize.ShloMosaic.TcCoe
open Cert.ReferenceIdeal Cert.ReferenceIdeal.Gen Cert.ReferenceIdeal.Read Cert.ReferenceIdeal.Message Cert.Spec

variable (x0 : FVec Ideal S4x8x512x256 .f32) (x1 x2 x3 : FVec Ideal S256x256 .f32) (x4 x5 : FVec Ideal S256 .f32)
  (x6 x7 : FVec Ideal S256x256 .f32) (x8 x9 : FVec Ideal S768x256 .f32) (x10 x11 : FVec Ideal S768 .f32) (x12 : FVec Ideal S256x256 .f32)
  (x13 : FVec Ideal S256 .f32) (b : Fin 4) (r : Fin 512)

/-- The messages side by side. -/
theorem msgs (t : Fin 8) (d : Fin 256) : val_main_v185 (F := Ideal) x0 x2 x6 x7 (ix4 b t r d) = msg x0 x2 x6 x7 b t r d := by
  pointwise [val_main_v185]
  obtain ⟨n, hn⟩ := t
  split
  next h =>
    obtain rfl : n = 0 := by have : n < 1 := h; omega
    exact msgA x0 x2 x6 x7 b r d
  split
  next h h' =>
    obtain rfl : n = 1 := by have : ¬ n < 1 := h; have : n - 1 < 1 := h'; omega
    exact msgB x0 x2 x6 x7 b r d
  next h h' =>
    obtain ⟨k, rfl⟩ : ∃ k, n = 2 + k := ⟨n - 2, by have : ¬ n < 1 := h; have : ¬ n - 1 < 1 := h'; omega⟩
    refine Eq.trans ?_ (msgC x0 x2 x6 x7 b ⟨k, by omega⟩ r d)
    exact congrArg (fun i => val_main_v184 (F := Ideal) x0 x2 x6 x7 (ix4 b i r d)) (Fin.ext (by show 2 + k - 1 - 1 = k; omega))

/-- The gate inputs of step `t`. -/
def gates (t : Fin 8) (g : Fin 768) : EReal :=
  inrow (msg x0 x2 x6 x7 b t r) (rows x0 b t r) (fun d e => x1 (ix2 d e)) (fun d e => x3 (ix2 d e)) (fun e => x4 (ix1 e)) (fun e => x5 (ix1 e))
    (fun g e => x8 (ix2 g e)) (fun g => x10 (ix1 g)) g

theorem gates_eq (t : Fin 8) (g : Fin 768) : val_main_v219 (F := Ideal) x0 x1 x2 x3 x4 x5 x6 x7 x8 x10 (ix4 b t r g) = gates x0 x1 x2 x3 x4 x5 x6 x7 x8 x10 b r t g := by
  pointwise [val_main_v186, val_main_v187, val_main_v188, val_main_v189, val_main_v190, val_main_v191, val_main_v192, val_main_v193,
    val_main_v194, val_main_v195, val_main_v196, val_main_v197, val_main_v198, val_main_v199, val_main_v200, val_main_v201,
    val_main_v202, val_main_v203, val_main_v204, val_main_v205, val_main_v206, val_main_v207, val_main_v208, val_main_v209,
    val_main_v210, val_main_v211, val_main_v212, val_main_v213, val_main_v214, val_main_v215, val_main_v216, val_main_v217,
    val_main_v218, val_main_v219, val_main_cst_41, val_main_cst_42, val_main_cst_43, val_main_cst_44, val_main_cst_45]
  simp only [msgs]
  rfl

/-- A gate on arrays: the logistic function of a sum, spelled with the exponential. -/
def gateArr (u w : FVec Ideal S4x512x256 .f32) : FVec Ideal S4x512x256 .f32 :=
  have s : FVec Ideal S4x512x256 .f32 := addf u w
  have n : FVec Ideal S4x512x256 .f32 := Host.negf s
  have e : FVec Ideal S4x512x256 .f32 := Host.exp n
  have a : FVec Ideal S4x512x256 .f32 := addf (val_main_v237 (F := Ideal)) e
  Host.divf (val_main_v237 (F := Ideal)) a

/-- The hidden part of the gates, from the memory. -/
def hidArr (mem : FVec Ideal S4x512x256 .f32) : FVec Ideal S4x512x768 .f32 :=
  have q : FVec Ideal S4x512x768 .f32 :=
    Host.dotGeneral (φ₂ := .f32) dot_S4x512x256_S256x768_S4x512x768_2_0_01_1_n_n none mem (val_main_v226 (F := Ideal) x9)
  addf q (val_main_v229 (F := Ideal) x11)

/-- The three thirds of the gate columns. -/
def third0 (u : FVec Ideal S4x512x768 .f32) : FVec Ideal S4x512x256 .f32 :=
  extractStridedSlice S4x512x256 ![0, 0, 0] u slices_S4x512x768_S4x512x256_0_0_0
def third1 (u : FVec Ideal S4x512x768 .f32) : FVec Ideal S4x512x256 .f32 :=
  extractStridedSlice S4x512x256 ![0, 0, 256] u slices_S4x512x768_S4x512x256_0_0_256
def third2 (u : FVec Ideal S4x512x768 .f32) : FVec Ideal S4x512x256 .f32 :=
  extractStridedSlice S4x512x256 ![0, 0, 512] u slices_S4x512x768_S4x512x256_0_0_512

/-- One recurrent step on arrays. -/
def stepArr (gi : FVec Ideal S4x512x768 .f32) (mem : FVec Ideal S4x512x256 .f32) : FVec Ideal S4x512x256 .f32 :=
  have gh : FVec Ideal S4x512x768 .f32 := hidArr x9 x11 mem
  have u : FVec Ideal S4x512x256 .f32 := gateArr (third1 gi) (third1 gh)
  have g : FVec Ideal S4x512x256 .f32 := gateArr (third0 gi) (third0 gh)
  have p : FVec Ideal S4x512x256 .f32 := mulf g (third2 gh)
  have a : FVec Ideal S4x512x256 .f32 := addf (third2 gi) p
  have c : FVec Ideal S4x512x256 .f32 := Host.tanh a
  have o : FVec Ideal S4x512x256 .f32 := subf (val_main_v237 (F := Ideal)) u
  have m : FVec Ideal S4x512x256 .f32 := mulf o c
  have k : FVec Ideal S4x512x256 .f32 := mulf u mem
  addf m k

theorem step_read (gi : FVec Ideal S4x512x768 .f32) (mem : FVec Ideal S4x512x256 .f32) (d : Fin 256) : stepArr x9 x11 gi mem (ix3 b r d)
    = gru (fun g => gi (ix3 b r g)) (memrow (fun e => mem (ix3 b r e)) (fun g e => x9 (ix2 g e)) (fun g => x11 (ix1 g)))
      (fun e => mem (ix3 b r e)) d := by
  pointwise [stepArr, gateArr, hidArr, third0, third1, third2, val_main_v226, val_main_v229, val_main_v228, val_main_v237, val_main_cst_47]
  rfl

/-- The memory of a row before step `n`. -/
def mems : ℕ → Row :=
  memory (fun n => gates x0 x1 x2 x3 x4 x5 x6 x7 x8 x10 b r ⟨n % 8, Nat.mod_lt _ (by decide)⟩) (fun g e => x9 (ix2 g e)) (fun g => x11 (ix1 g))

theorem following (n : ℕ) (gi : FVec Ideal S4x512x768 .f32) (mem : FVec Ideal S4x512x256 .f32)
    (hg : ∀ g, gi (ix3 b r g) = gates x0 x1 x2 x3 x4 x5 x6 x7 x8 x10 b r ⟨n % 8, Nat.mod_lt _ (by decide)⟩ g) (hm : ∀ e, mem (ix3 b r e) = mems x0 x1 x2 x3 x4 x5 x6 x7 x8 x9 x10 x11 b r n e) (d : Fin 256) :
    stepArr x9 x11 gi mem (ix3 b r d) = mems x0 x1 x2 x3 x4 x5 x6 x7 x8 x9 x10 x11 b r (n + 1) d := by
  rw [step_read, show (fun g => gi (ix3 b r g)) = _ from funext hg, show (fun e => mem (ix3 b r e)) = _ from funext hm]
  rfl

theorem mem1 (d : Fin 256) : val_main_v255 (F := Ideal) x0 x1 x2 x3 x4 x5 x6 x7 x8 x9 x10 x11 (ix3 b r d) = mems x0 x1 x2 x3 x4 x5 x6 x7 x8 x9 x10 x11 b r 1 d :=
  following x0 x1 x2 x3 x4 x5 x6 x7 x8 x9 x10 x11 b r 0 (val_main_v222 (F := Ideal) x0 x1 x2 x3 x4 x5 x6 x7 x8 x10) (val_main_v220 (F := Ideal))
    (fun g => Eq.trans (by pointwise [val_main_v222, val_main_v221]) (gates_eq x0 x1 x2 x3 x4 x5 x6 x7 x8 x10 b r 0 g)) (fun e => by pointwise [val_main_v220, val_main_cst_46]; rfl) d

theorem mem2 (d : Fin 256) : val_main_v290 (F := Ideal) x0 x1 x2 x3 x4 x5 x6 x7 x8 x9 x10 x11 (ix3 b r d) = mems x0 x1 x2 x3 x4 x5 x6 x7 x8 x9 x10 x11 b r 2 d :=
  following x0 x1 x2 x3 x4 x5 x6 x7 x8 x9 x10 x11 b r 1 (val_main_v257 (F := Ideal) x0 x1 x2 x3 x4 x5 x6 x7 x8 x10) (val_main_v255 (F := Ideal) x0 x1 x2 x3 x4 x5 x6 x7 x8 x9 x10 x11)
    (fun g => Eq.trans (by pointwise [val_main_v257, val_main_v256]) (gates_eq x0 x1 x2 x3 x4 x5 x6 x7 x8 x10 b r 1 g)) (mem1 x0 x1 x2 x3 x4 x5 x6 x7 x8 x9 x10 x11 b r) d

theorem mem3 (d : Fin 256) : val_main_v325 (F := Ideal) x0 x1 x2 x3 x4 x5 x6 x7 x8 x9 x10 x11 (ix3 b r d) = mems x0 x1 x2 x3 x4 x5 x6 x7 x8 x9 x10 x11 b r 3 d :=
  following x0 x1 x2 x3 x4 x5 x6 x7 x8 x9 x10 x11 b r 2 (val_main_v292 (F := Ideal) x0 x1 x2 x3 x4 x5 x6 x7 x8 x10) (val_main_v290 (F := Ideal) x0 x1 x2 x3 x4 x5 x6 x7 x8 x9 x10 x11)
    (fun g => Eq.trans (by pointwise [val_main_v292, val_main_v291]) (gates_eq x0 x1 x2 x3 x4 x5 x6 x7 x8 x10 b r 2 g)) (mem2 x0 x1 x2 x3 x4 x5 x6 x7 x8 x9 x10 x11 b r) d

theorem mem4 (d : Fin 256) : val_main_v360 (F := Ideal) x0 x1 x2 x3 x4 x5 x6 x7 x8 x9 x10 x11 (ix3 b r d) = mems x0 x1 x2 x3 x4 x5 x6 x7 x8 x9 x10 x11 b r 4 d :=
  following x0 x1 x2 x3 x4 x5 x6 x7 x8 x9 x10 x11 b r 3 (val_main_v327 (F := Ideal) x0 x1 x2 x3 x4 x5 x6 x7 x8 x10) (val_main_v325 (F := Ideal) x0 x1 x2 x3 x4 x5 x6 x7 x8 x9 x10 x11)
    (fun g => Eq.trans (by pointwise [val_main_v327, val_main_v326]) (gates_eq x0 x1 x2 x3 x4 x5 x6 x7 x8 x10 b r 3 g)) (mem3 x0 x1 x2 x3 x4 x5 x6 x7 x8 x9 x10 x11 b r) d

theorem mem5 (d : Fin 256) : val_main_v395 (F := Ideal) x0 x1 x2 x3 x4 x5 x6 x7 x8 x9 x10 x11 (ix3 b r d) = mems x0 x1 x2 x3 x4 x5 x6 x7 x8 x9 x10 x11 b r 5 d :=
  following x0 x1 x2 x3 x4 x5 x6 x7 x8 x9 x10 x11 b r 4 (val_main_v362 (F := Ideal) x0 x1 x2 x3 x4 x5 x6 x7 x8 x10) (val_main_v360 (F := Ideal) x0 x1 x2 x3 x4 x5 x6 x7 x8 x9 x10 x11)
    (fun g => Eq.trans (by pointwise [val_main_v362, val_main_v361]) (gates_eq x0 x1 x2 x3 x4 x5 x6 x7 x8 x10 b r 4 g)) (mem4 x0 x1 x2 x3 x4 x5 x6 x7 x8 x9 x10 x11 b r) d

theorem mem6 (d : Fin 256) : val_main_v430 (F := Ideal) x0 x1 x2 x3 x4 x5 x6 x7 x8 x9 x10 x11 (ix3 b r d) = mems x0 x1 x2 x3 x4 x5 x6 x7 x8 x9 x10 x11 b r 6 d :=
  following x0 x1 x2 x3 x4 x5 x6 x7 x8 x9 x10 x11 b r 5 (val_main_v397 (F := Ideal) x0 x1 x2 x3 x4 x5 x6 x7 x8 x10) (val_main_v395 (F := Ideal) x0 x1 x2 x3 x4 x5 x6 x7 x8 x9 x10 x11)
    (fun g => Eq.trans (by pointwise [val_main_v397, val_main_v396]) (gates_eq x0 x1 x2 x3 x4 x5 x6 x7 x8 x10 b r 5 g)) (mem5 x0 x1 x2 x3 x4 x5 x6 x7 x8 x9 x10 x11 b r) d

theorem mem7 (d : Fin 256) : val_main_v465 (F := Ideal) x0 x1 x2 x3 x4 x5 x6 x7 x8 x9 x10 x11 (ix3 b r d) = mems x0 x1 x2 x3 x4 x5 x6 x7 x8 x9 x10 x11 b r 7 d :=
  following x0 x1 x2 x3 x4 x5 x6 x7 x8 x9 x10 x11 b r 6 (val_main_v432 (F := Ideal) x0 x1 x2 x3 x4 x5 x6 x7 x8 x10) (val_main_v430 (F := Ideal) x0 x1 x2 x3 x4 x5 x6 x7 x8 x9 x10 x11)
    (fun g => Eq.trans (by pointwise [val_main_v432, val_main_v431]) (gates_eq x0 x1 x2 x3 x4 x5 x6 x7 x8 x10 b r 6 g)) (mem6 x0 x1 x2 x3 x4 x5 x6 x7 x8 x9 x10 x11 b r) d

theorem mem8 (d : Fin 256) : val_main_v500 (F := Ideal) x0 x1 x2 x3 x4 x5 x6 x7 x8 x9 x10 x11 (ix3 b r d) = mems x0 x1 x2 x3 x4 x5 x6 x7 x8 x9 x10 x11 b r 8 d :=
  following x0 x1 x2 x3 x4 x5 x6 x7 x8 x9 x10 x11 b r 7 (val_main_v467 (F := Ideal) x0 x1 x2 x3 x4 x5 x6 x7 x8 x10) (val_main_v465 (F := Ideal) x0 x1 x2 x3 x4 x5 x6 x7 x8 x9 x10 x11)
    (fun g => Eq.trans (by pointwise [val_main_v467, val_main_v466]) (gates_eq x0 x1 x2 x3 x4 x5 x6 x7 x8 x10 b r 7 g)) (mem7 x0 x1 x2 x3 x4 x5 x6 x7 x8 x9 x10 x11 b r) d

theorem all_mems (t : Fin 8) (d : Fin 256) : val_main_v509 (F := Ideal) x0 x1 x2 x3 x4 x5 x6 x7 x8 x9 x10 x11 (ix4 b t r d) = mems x0 x1 x2 x3 x4 x5 x6 x7 x8 x9 x10 x11 b r (t.val + 1) d := by
  pointwise [val_main_v501, val_main_v502, val_main_v503, val_main_v504, val_main_v505, val_main_v506, val_main_v507, val_main_v508,
    val_main_v509]
  split
  · exact (mem1 x0 x1 x2 x3 x4 x5 x6 x7 x8 x9 x10 x11 b r d).trans (by rw [show t.val = 0 by omega])
  split
  · exact (mem2 x0 x1 x2 x3 x4 x5 x6 x7 x8 x9 x10 x11 b r d).trans (by rw [show t.val = 1 by omega])
  split
  · exact (mem3 x0 x1 x2 x3 x4 x5 x6 x7 x8 x9 x10 x11 b r d).trans (by rw [show t.val = 2 by omega])
  split
  · exact (mem4 x0 x1 x2 x3 x4 x5 x6 x7 x8 x9 x10 x11 b r d).trans (by rw [show t.val = 3 by omega])
  split
  · exact (mem5 x0 x1 x2 x3 x4 x5 x6 x7 x8 x9 x10 x11 b r d).trans (by rw [show t.val = 4 by omega])
  split
  · exact (mem6 x0 x1 x2 x3 x4 x5 x6 x7 x8 x9 x10 x11 b r d).trans (by rw [show t.val = 5 by omega])
  split
  · exact (mem7 x0 x1 x2 x3 x4 x5 x6 x7 x8 x9 x10 x11 b r d).trans (by rw [show t.val = 6 by omega])
  · exact (mem8 x0 x1 x2 x3 x4 x5 x6 x7 x8 x9 x10 x11 b r d).trans (by rw [show t.val = 7 by omega])

/-- The output. -/
theorem output (t : Fin 8) (d : Fin 256) : val_main_v515 (F := Ideal) x0 x1 x2 x3 x4 x5 x6 x7 x8 x9 x10 x11 x12 x13 (ix4 b t r d)
    = outrow (rows x0 b t r) (mems x0 x1 x2 x3 x4 x5 x6 x7 x8 x9 x10 x11 b r (t.val + 1)) (fun d e => x12 (ix2 d e)) (fun d => x13 (ix1 d)) d := by
  pointwise [val_main_v515, val_main_v514, val_main_v513, val_main_v512, val_main_v511, val_main_v510]
  simp only [all_mems]
  rfl

end Cert.ReferenceIdeal.Tail
end
-- ==== Proof.Message.lean ====
/- The two messages agree: where everything is a number and the nine largest similarities of a row are all different, the
   kernel's columns are the reference's eight keys. -/
module

public import proofs.«01_k».proof.Proof.Spec

@[expose] public section

noncomputable section

namespace Cert.Spec

open Idealize.ShloMosaic

/-- Being a number. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} [Fintype ι] {f : ι → EReal} (h : ∀ i, IsReal (f i)) : IsReal (∑ i, f i) := by
  choose g hg using h
  exact ⟨∑ i, g i, by simp only [hg, coe_sum]⟩

theorem small_real : ∃ e : ℝ, Ideal.ofBits .f32 0x2B8CBCCC#32 = (e : EReal) ∧ 0 < e := by
  refine ⟨_, by simp only [Ideal.ofBits, Ideal.ieee]; simp [-EReal.coe_mul]; rfl, ?_⟩
  norm_num

theorem coe_max (a b : ℝ) : max (a : EReal) (b : EReal) = ((max a b : ℝ) : EReal) :=
  (EReal.coe_strictMono.monotone.map_max (a := a) (b := b)).symm

/-- A normalised row has entries between -1 and 1. -/
theorem nrm_real (x : Row) (hx : ∀ d, IsReal (x d)) (d : Fin 256) : ∃ r : ℝ, nrm x d = r ∧ |r| ≤ 1 := by
  choose y hy using hx
  obtain rfl : x = fun d => (y d : EReal) := funext hy
  obtain ⟨e, he, h0⟩ := small_real
  have hs : (0 : ℝ) ≤ ∑ i, y i * y i := Finset.sum_nonneg fun i _ => mul_self_nonneg _
  have hq : Ideal.sqrt (((∑ i, y i * y i : ℝ) : EReal)) = ((Real.sqrt (∑ i, y i * y i) : ℝ) : EReal) := by
    exact if_neg (not_lt.2 hs)
  have hm : 0 < max (Real.sqrt (∑ i, y i * y i)) e := lt_max_of_lt_right h0
  refine ⟨y d / max (Real.sqrt (∑ i, y i * y i)) e, ?_, ?_⟩
  · unfold nrm
    simp only [← EReal.coe_mul, coe_sum]
    rw [hq, he, coe_max, div_coe _ _ hm.ne']
  · rw [abs_div, abs_of_pos hm, div_le_one hm]
    refine le_trans ?_ (le_max_left _ _)
    rw [← Real.sqrt_mul_self_eq_abs]
    exact Real.sqrt_le_sqrt (Finset.single_le_sum (f := fun i => y i * y i) (fun i _ => mul_self_nonneg _) (Finset.mem_univ d))

section

variable (Z : Steps) (hZ : ∀ t r d, IsReal (Z t r d)) (t : Fin 8) (r : Fin 512)

include hZ in
theorem sim_real (n : Fin 1536) : ∃ s : ℝ, sim Z t r n = s ∧ -256 ≤ s := by
  choose a ha hA using nrm_real (Z t r) (hZ t r)
  choose b hb hB using nrm_real (key Z t n) (hZ _ _)
  refine ⟨∑ d, a d * b d, ?_, ?_⟩
  · unfold sim
    simp only [ha, hb, ← EReal.coe_mul, coe_sum]
  · have : ∀ d ∈ (Finset.univ : Finset (Fin 256)), (-1 : ℝ) ≤ a d * b d := fun d _ => by
      have h : |a d * b d| ≤ 1 := by rw [abs_mul]; exact mul_le_one₀ (hA d) (abs_nonneg _) (hB d)
      exact (abs_le.1 h).1
    calc (-256 : ℝ) = ∑ _d : Fin 256, (-1 : ℝ) := by simp
      _ ≤ _ := Finset.sum_le_sum this

include hZ in
theorem stand_lt_sim (n : Fin 1536) : stand < sim Z t r n := by
  obtain ⟨s, hs, h⟩ := sim_real Z hZ t r n
  obtain ⟨c, hc, h'⟩ := stand_real
  rw [hs, hc]
  exact EReal.coe_lt_coe_iff.2 (by linarith)

/-- The row's similarities with the keys of the step. -/
def sims (n : Fin (seen t)) : EReal := sim Z t r (n.castLE (seen_le t).2)

/-- The place of the `k`-th largest. -/
def nth (k : ℕ) (hk : k < 9) : Fin (seen t) := ord (sims Z t r) ⟨k, by have := (seen_le t).1; omega⟩

/-- The nine largest are all different. -/
def Untied : Prop := ∀ (k : ℕ) (hk : k < 8), sims Z t r (nth Z t r (k + 1) (by omega)) < sims Z t r (nth Z t r k (by omega))

/-- A row whose nine largest similarities are all different holds real numbers: with an infinity among them the row is zero once it is
    normalised, and all its similarities are zero. -/
theorem real_of_untied (hU : Untied Z t r) (d : Fin 256) : IsReal (Z t r d) := by
  by_contra hd
  have hsq : Z t r d * Z t r d = ⊤ := by
    generalize Z t r d = x at hd
    induction x with
    | bot => rfl
    | coe a => exact absurd ⟨a, rfl⟩ hd
    | top => rfl
  have hsum : ∑ i, Z t r i * Z t r i = ⊤ := by
    refine top_le_iff.1 (hsq ▸ Finset.single_le_sum (f := fun i => Z t r i * Z t r i) (fun i _ => ?_) (Finset.mem_univ d))
    induction Z t r i with
    | bot => exact _root_.le_top
    | coe a => rw [← EReal.coe_mul]; exact EReal.coe_nonneg.2 (mul_self_nonneg a)
    | top => exact _root_.le_top
  have hn : ∀ i, nrm (Z t r) i = 0 := fun i => by
    unfold nrm
    rw [hsum, show Ideal.sqrt ⊤ = ⊤ from rfl, max_eq_left _root_.le_top, Ideal.div, if_neg (by decide), EReal.inv_top, mul_zero]
  have hs : ∀ n, sims Z t r n = 0 := fun n => by
    unfold sims sim
    simp [hn]
  have := hU 0 (by omega)
  rw [hs, hs] at this
  exact lt_irrefl _ this

variable (hU : Untied Z t r)

theorem pick_eq (k : Fin 8) : pick Z t r k = (nth Z t r k.val (by omega)).castLE (seen_le t).2 := rfl

theorem msim_pick (k : Fin 8) : msim Z t r (pick Z t r k) = sims Z t r (nth Z t r k.val (by omega)) :=
  if_pos (nth Z t r k.val (by omega)).isLt

include hU in
theorem pick_anti : StrictAnti (msim Z t r ∘ pick Z t r) := fun i j hij => by
  show msim Z t r (pick Z t r j) < msim Z t r (pick Z t r i)
  rw [msim_pick, msim_pick]
  refine lt_of_le_of_lt ?_ (hU i.val i.isLt)
  by_cases h : i.val + 1 = j.val
  · exact le_of_eq (congrArg (sims Z t r) (congrArg (ord (sims Z t r)) (Fin.ext h.symm)))
  · exact ord_anti _ _ _ (show i.val + 1 < j.val by have : i.val < j.val := hij; omega)

include hZ hU in
theorem pick_rest (n : Fin 1536) : (∃ j, n = pick Z t r j) ∨ msim Z t r n < msim Z t r (pick Z t r 7) := by
  rw [msim_pick]
  by_cases h : n.val < seen t
  · obtain ⟨j, hj⟩ := ord_surjective (sims Z t r) ⟨n.val, h⟩
    by_cases h8 : j.val < 8
    · exact .inl ⟨⟨j.val, h8⟩, Fin.ext (congrArg Fin.val hj).symm⟩
    · right
      have e : msim Z t r n = sims Z t r (ord (sims Z t r) j) := by rw [hj]; exact if_pos h
      rw [e]
      refine lt_of_le_of_lt ?_ (hU 7 (by decide))
      by_cases h9 : j.val = 8
      · exact le_of_eq (congrArg (sims Z t r) (congrArg (ord (sims Z t r)) (Fin.ext h9)))
      · exact ord_anti _ _ _ (show 8 < j.val by omega)
  · right
    exact lt_of_eq_of_lt (if_neg h) (stand_lt_sim Z hZ t r _)

include hZ in
theorem msim_real (n : Fin 1536) : IsReal (msim Z t r n) := by
  unfold msim
  split
  · obtain ⟨s, h, _⟩ := sim_real Z hZ t r n
    exact ⟨s, h⟩
  · obtain ⟨s, h, _⟩ := stand_real
    exact ⟨s, h⟩

include hZ hU in
/-- The two messages agree. -/
theorem message_eq (Wv Wq Wk : Fin 256 → Row) (hv : ∀ d e, IsReal (Wv d e)) (hq : ∀ e, IsReal (Wq 0 e))
    (hk : ∀ d e, IsReal (Wk d e)) : kmessage Z Wv Wq Wk t r = rmessage Z Wv Wq Wk t r := by
  classical
  have ha := pick_anti Z t r hU
  funext d
  have hm : (fun k => msim Z t r (pick Z t r k)) = fun k => sim Z t r (pick Z t r k) := funext fun k => msim_pick Z t r k
  unfold rmessage
  rw [← hm]
  refine msg_eq _ (pick Z t r) (fun i j h => ha.injective (congrArg (msim Z t r) h)) (fun n => ?_) (msim Z t r)
    (logit Z Wq Wk t) (key Z t) Wv (msim_real Z hZ t r) (fun n => ?_) (fun n => hZ _ _) hv d
  · refine sel_iff (msim Z t r) (pick Z t r) ha (pick_rest Z hZ t r hU) (fun n => ?_) ?_ (fun n => ?_) n
    · unfold msim
      split
      · exact (stand_lt_sim Z hZ t r n).le
      · exact le_rfl
    · rw [msim_pick]
      exact stand_lt_sim Z hZ t r _
    · obtain ⟨s, h⟩ := msim_real Z hZ t r n
      rw [h]
      exact EReal.coe_lt_top s
  · exact (IsReal.sum fun e => (hZ _ _ e).mul (hq e)).mul (IsReal.sum fun o => IsReal.sum fun e => (hk o e).mul (hZ _ _ e))

end

end Cert.Spec

end
-- ==== Proof.PreRead.lean ====
module

public import proofs.«01_k».proof.Pre_finite_untied
public import proofs.«01_k».proof.Proof.Gen.Pre_finite_untied
public import proofs.«01_k».proof.Proof.RefMessage
public import proofs.«01_k».proof.Proof.Message

/-!
# The precondition, read

What the all-ones arrays of the precondition say: the weights of the attention are real numbers, and the nine largest similarities of every row are
all different.
-/

@[expose] public section

set_option maxRecDepth 16384

noncomputable section

namespace Cert.PreRead

open Idealize.ShloMosaic Idealize.ShloMosaic.TcCoe
open Cert.ReferenceIdeal Cert.ReferenceIdeal.Gen Cert.ReferenceIdeal.Read Cert.ReferenceIdeal.Message Cert.Spec

theorem inf_word : Ideal.ofBits .f32 0x7F800000#32 = (⊤ : EReal) := by
  simp [Ideal.ofBits, Ideal.ieee]

/-- A value whose size is below infinity is a real number. -/
theorem real_of_finite (x : EReal) (h : FloatOps.cmpf (F := Ideal) (φ := .f32) .olt (FloatOps.absf (F := Ideal) (φ := .f32) x) (Ideal.ofBits .f32 0x7F800000#32) = 1#1) : IsReal x := by
  rw [inf_word] at h
  have h : Ideal.cmp .olt (max x (-x)) ⊤ = 1#1 := h
  simp only [Ideal.cmp, CmpDirection.ordered] at h
  induction x with
  | bot => simp at h
  | coe r => exact ⟨r, rfl⟩
  | top => simp at h

/-- The first and the last eight of nine places. -/
theorem front {α : Type} {T : ℕ} (w : (⟨4, ![4, T, 512, 9]⟩ : Shape).Idx → α) (h) (b : Fin 4) (t : Fin T) (r : Fin 512) (k : Fin 8) :
    extractStridedSlice (s := ⟨4, ![4, T, 512, 9]⟩) ⟨4, ![4, T, 512, 8]⟩ ![0, 0, 0, 0] w h (ix4 b t r k) = w (ix4 b t r k.castSucc) :=
  congrArg w (by funext a; fin_cases a <;> exact Fin.ext (Nat.zero_add _))

theorem back {α : Type} {T : ℕ} (w : (⟨4, ![4, T, 512, 9]⟩ : Shape).Idx → α) (h) (b : Fin 4) (t : Fin T) (r : Fin 512) (k : Fin 8) :
    extractStridedSlice (s := ⟨4, ![4, T, 512, 9]⟩) ⟨4, ![4, T, 512, 8]⟩ ![0, 0, 0, 1] w h (ix4 b t r k) = w (ix4 b t r k.succ) :=
  congrArg w (by funext a; fin_cases a <;> first | exact Fin.ext (Nat.zero_add _) | exact Fin.ext (Nat.add_comm _ _))

variable (x0 : FVec Ideal S4x8x512x256 .f32) (x1 x2 x3 : FVec Ideal S256x256 .f32) (x4 x5 : FVec Ideal S256 .f32)
  (x6 x7 : FVec Ideal S256x256 .f32) (x8 x9 : FVec Ideal S768x256 .f32) (x10 x11 : FVec Ideal S768 .f32) (x12 : FVec Ideal S256x256 .f32)
  (x13 : FVec Ideal S256 .f32) (b : Fin 4) (r : Fin 512)

/-- What the precondition computes. -/
abbrev pre := Cert.Pre_finite_untied.fn (F := Ideal) x0 x1 x2 x3 x4 x5 x6 x7 x8 x9 x10 x11 x12 x13

/-- The comparison of neighbours among the nine largest. -/
def falls {T N : ℕ} (x : FVec Ideal ⟨4, ![4, T, 512, N]⟩ .f32)
    (h : (⟨4, ![4, T, 512, N]⟩ : Shape).Slices (fun _ => 0) ⟨4, ![4, T, 512, 9]⟩)
    (h0 : (⟨4, ![4, T, 512, 9]⟩ : Shape).Slices ![0, 0, 0, 0] ⟨4, ![4, T, 512, 8]⟩)
    (h1 : (⟨4, ![4, T, 512, 9]⟩ : Shape).Slices ![0, 0, 0, 1] ⟨4, ![4, T, 512, 8]⟩) : IVec ⟨4, ![4, T, 512, 8]⟩ 1 :=
  have v : FVec Ideal ⟨4, ![4, T, 512, 9]⟩ .f32 :=
    (Host.topK (s := ⟨4, ![4, T, 512, N]⟩) ⟨4, ![4, T, 512, 9]⟩ 3 (FloatOps.cmpfTotal (F := Ideal) .gt) x h).1
  have v0 : FVec Ideal ⟨4, ![4, T, 512, 8]⟩ .f32 := extractStridedSlice (s := ⟨4, ![4, T, 512, 9]⟩) ⟨4, ![4, T, 512, 8]⟩ ![0, 0, 0, 0] v h0
  have v1 : FVec Ideal ⟨4, ![4, T, 512, 8]⟩ .f32 := extractStridedSlice (s := ⟨4, ![4, T, 512, 9]⟩) ⟨4, ![4, T, 512, 8]⟩ ![0, 0, 0, 1] v h1
  cmpf .ogt v0 v1

theorem gt_of_one (x y : EReal) (h : FloatOps.cmpf (F := Ideal) (φ := .f32) .ogt x y = 1#1) : y < x := by
  have : Ideal.cmp .ogt x y = 1#1 := h
  simp only [Ideal.cmp, CmpDirection.ordered] at this
  by_contra hn
  simp [hn] at this

/-- Where neighbours fall strictly, the nine largest are all different. -/
theorem untied_of (Z : Steps) (τ : Fin 8) (T N : ℕ) (hN : N = seen τ) (hN' : N ≤ 1536)
    (x : FVec Ideal ⟨4, ![4, T, 512, N]⟩ .f32) (t : Fin T) (hx : ∀ n : Fin N, x (ix4 b t r n) = sim Z τ r (n.castLE hN')) (h h0 h1)
    (hf : falls x h h0 h1 = fun _ => 1#1) : Untied Z τ r := by
  subst hN
  intro k hk
  have h9 : 9 ≤ seen τ := by have := (seen_le τ).1; omega
  have e := gt_of_one _ _ (congrFun hf (ix4 b t r ⟨k, hk⟩))
  rw [front, back, topK_val x h b t r _ h9, topK_val x h b t r _ h9, hx, hx, show (fun n => x (ix4 b t r n)) = _ from funext hx] at e
  exact e

theorem first_falls : (pre x0 x1 x2 x3 x4 x5 x6 x7 x8 x9 x10 x11 x12 x13).2.2.2.1
    = falls (T := 1) (N := 512) (val_main_v27 (F := Ideal) x0) Cert.Pre_finite_untied.Facts.sliceFits_S4x1x512x512_S4x1x512x9
      Cert.Pre_finite_untied.Facts.slices_S4x1x512x9_S4x1x512x8_0_0_0_0 Cert.Pre_finite_untied.Facts.slices_S4x1x512x9_S4x1x512x8_0_0_0_1 := rfl

theorem second_falls : (pre x0 x1 x2 x3 x4 x5 x6 x7 x8 x9 x10 x11 x12 x13).2.2.2.2.1
    = falls (T := 1) (N := 1024) (val_main_v85 (F := Ideal) x0) Cert.Pre_finite_untied.Facts.sliceFits_S4x1x512x1024_S4x1x512x9
      Cert.Pre_finite_untied.Facts.slices_S4x1x512x9_S4x1x512x8_0_0_0_0 Cert.Pre_finite_untied.Facts.slices_S4x1x512x9_S4x1x512x8_0_0_0_1 := rfl

theorem later_falls : (pre x0 x1 x2 x3 x4 x5 x6 x7 x8 x9 x10 x11 x12 x13).2.2.2.2.2
    = falls (T := 6) (N := 1536) (val_main_v143 (F := Ideal) x0) Cert.Pre_finite_untied.Facts.sliceFits_S4x6x512x1536_S4x6x512x9
      Cert.Pre_finite_untied.Facts.slices_S4x6x512x9_S4x6x512x8_0_0_0_0 Cert.Pre_finite_untied.Facts.slices_S4x6x512x9_S4x6x512x8_0_0_0_1 := rfl

/-- The weights that enter the attention are real numbers. -/
theorem real_v (h : (pre x0 x1 x2 x3 x4 x5 x6 x7 x8 x9 x10 x11 x12 x13).1 = fun _ => 1#1) (i) : IsReal (x2 i) := real_of_finite _ (congrFun h i)

theorem real_q (h : (pre x0 x1 x2 x3 x4 x5 x6 x7 x8 x9 x10 x11 x12 x13).2.1 = fun _ => 1#1) (e : Fin 256) : IsReal (x6 (ix2 0 e)) := by
  refine (congrArg (fun i => IsReal (x6 i)) ?_).mp (real_of_finite _ (congrFun h (ix2 0 e)))
  funext a
  fin_cases a <;> exact Fin.ext (Nat.zero_add _)

theorem real_k (h : (pre x0 x1 x2 x3 x4 x5 x6 x7 x8 x9 x10 x11 x12 x13).2.2.1 = fun _ => 1#1) (i) : IsReal (x7 i) := real_of_finite _ (congrFun h i)

/-- The nine largest similarities of every row are all different. -/
theorem untied (hA : (pre x0 x1 x2 x3 x4 x5 x6 x7 x8 x9 x10 x11 x12 x13).2.2.2.1 = fun _ => 1#1) (hB : (pre x0 x1 x2 x3 x4 x5 x6 x7 x8 x9 x10 x11 x12 x13).2.2.2.2.1 = fun _ => 1#1)
    (hC : (pre x0 x1 x2 x3 x4 x5 x6 x7 x8 x9 x10 x11 x12 x13).2.2.2.2.2 = fun _ => 1#1) (t : Fin 8) : Untied (rows x0 b) t r := by
  by_cases h0 : t.val = 0
  · obtain rfl : t = 0 := Fin.ext h0
    exact untied_of b r _ 0 1 512 rfl (by decide) _ 0 (simA x0 b r) _ _ _ ((first_falls x0 x1 x2 x3 x4 x5 x6 x7 x8 x9 x10 x11 x12 x13).symm.trans hA)
  by_cases h1 : t.val = 1
  · obtain rfl : t = 1 := Fin.ext h1
    exact untied_of b r _ 1 1 1024 rfl (by decide) _ 0 (simB x0 b r) _ _ _ ((second_falls x0 x1 x2 x3 x4 x5 x6 x7 x8 x9 x10 x11 x12 x13).symm.trans hB)
  obtain ⟨i, rfl⟩ : ∃ i, t = later i := ⟨⟨t.val - 2, by omega⟩, Fin.ext (by simp only [later]; omega)⟩
  exact untied_of b r _ (later i) 6 1536 (seen_later i) (by decide) _ i (simC x0 b i r) _ _ _ ((later_falls x0 x1 x2 x3 x4 x5 x6 x7 x8 x9 x10 x11 x12 x13).symm.trans hC)

end Cert.PreRead
end
-- ==== Proof.Algebraic.lean ====
module

public import proofs.«01_k».proof.Defs
public import proofs.«01_k».proof.Proof.KernelSecond
public import proofs.«01_k».proof.Proof.RefTail
public import proofs.«01_k».proof.Proof.PreRead
public import proofs.«01_k».proof.Proof.Gen.ReferenceIdeal.Run

/-!
# The kernel and the reference leave the same values

Both results of both programs are read at an index as the same recurrence; what is left is the message, which the precondition makes
the same.
-/

@[expose] public section

set_option maxRecDepth 16384

noncomputable section

namespace Cert.Proof

open Idealize.ShloMosaic Idealize.ShloMosaic.TcCoe Idealize.SL.Sem
open Cert.Spec Cert.KernelIdeal.Whole Idealize.ShloMosaic.StableHlo

/-- The gate inputs of the two programs agree wherever the messages do. -/
theorem gates_agree (x0 : FVec Ideal Cert.ReferenceIdeal.S4x8x512x256 .f32) (x1 x2 x3 : FVec Ideal Cert.ReferenceIdeal.S256x256 .f32)
    (x4 x5 : FVec Ideal Cert.ReferenceIdeal.S256 .f32) (x6 x7 : FVec Ideal Cert.ReferenceIdeal.S256x256 .f32)
    (x8 : FVec Ideal Cert.ReferenceIdeal.S768x256 .f32) (x10 : FVec Ideal Cert.ReferenceIdeal.S768 .f32) (b : Fin 4) (t : Fin 8) (r : Fin 512)
    (h2 : ∀ i, IsReal (x2 i)) (h6 : ∀ e : Fin 256, IsReal (x6 (ix2 0 e))) (h7 : ∀ i, IsReal (x7 i))
    (hU : ∀ t r, Untied (Cert.ReferenceIdeal.Message.rows x0 b) t r) (g : Fin 768) :
    Cert.KernelIdeal.First.gates x0 x1 x2 x3 x4 x5 x6 x7 x8 x10 b t r g = Cert.ReferenceIdeal.Tail.gates x0 x1 x2 x3 x4 x5 x6 x7 x8 x10 b r t g :=
  congrArg (fun w : Row => inrow w (Cert.ReferenceIdeal.Message.rows x0 b t r) (fun d e => x1 (ix2 d e)) (fun d e => x3 (ix2 d e)) (fun e => x4 (ix1 e))
      (fun e => x5 (ix1 e)) (fun g e => x8 (ix2 g e)) (fun g => x10 (ix1 g)) g)
    (message_eq (Cert.ReferenceIdeal.Message.rows x0 b) (fun t r => real_of_untied _ t r (hU t r)) t r (hU t r) (fun d e => x2 (ix2 d e)) (fun d e => x6 (ix2 d e))
      (fun d e => x7 (ix2 d e)) (fun d e => h2 (ix2 d e)) h6 (fun d e => h7 (ix2 d e)))

section Values

variable (m : (ℓ : Loc Cert.KernelIdeal.nD Cert.KernelIdeal.τ Cert.KernelIdeal.sig) → Buf (Elt Ideal) ℓ) (hm : Cert.Pre_KernelIdeal_finite_untied m)
  (c : Dev Cert.KernelIdeal.nD)

include hm in
/-- The memories agree. -/
theorem mems_agree (b : Fin 4) (r : Fin 512) : Cert.KernelIdeal.Second.mems c m b r
    = Cert.ReferenceIdeal.Tail.mems
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) b r := by
  obtain ⟨hv, hq, hk, hA, hB, hC⟩ := hm c
  unfold Cert.KernelIdeal.Second.mems Cert.ReferenceIdeal.Tail.mems
  refine congrArg (fun G => memory G _ _) (funext fun n => funext fun g => ?_)
  exact gates_agree _ _ _ _ _ _ _ _ _ _ b ⟨n % 8, _⟩ r (Cert.PreRead.real_v _ _ _ _ _ _ _ _ _ _ _ _ _ _ hv) (Cert.PreRead.real_q _ _ _ _ _ _ _ _ _ _ _ _ _ _ hq)
    (Cert.PreRead.real_k _ _ _ _ _ _ _ _ _ _ _ _ _ _ hk) (fun t r => Cert.PreRead.untied _ _ _ _ _ _ _ _ _ _ _ _ _ _ b r hA hB hC t) g

include hm in
/-- The outputs agree. -/
theorem out_agree : (VB m c (Proc.devRef .tc Cert.KernelIdeal.main_v14_0) : FVec Ideal Cert.ReferenceIdeal.S4x8x512x256 .f32)
    = Cert.ReferenceIdeal.Read.val_main_v515 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)) := by
  refine (Pipeline.afterRegion_arr (datB m c) (VA m c) Cert.KernelIdeal.Gen.launch1.win.arr_inj 6).trans (funext fun i => ?_)
  obtain ⟨b, t, r, d, rfl⟩ : ∃ b t r d, i = ix4 b t r d := ⟨i 0, i 1, i 2, i 3, by funext a; fin_cases a <;> rfl⟩
  refine (Cert.KernelIdeal.Second.final_h c m b t r d).trans (Eq.trans ?_ (Cert.ReferenceIdeal.Tail.output _ _ _ _ _ _ _ _ _ _ _ _ _ _ b r t d).symm)
  unfold Cert.KernelIdeal.Second.outs
  rw [mems_agree m hm c b r]
  rfl

include hm in
/-- The last memories agree. -/
theorem mem_agree : (VB m c (Proc.devRef .tc Cert.KernelIdeal.main_v14_1) : FVec Ideal Cert.ReferenceIdeal.S4x512x256 .f32)
    = Cert.ReferenceIdeal.Read.val_main_v500 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) := by
  refine (Pipeline.afterRegion_arr (datB m c) (VA m c) Cert.KernelIdeal.Gen.launch1.win.arr_inj 7).trans (funext fun i => ?_)
  obtain ⟨b, r, d, rfl⟩ : ∃ b r d, i = ix3 b r d := ⟨i 0, i 1, i 2, by funext a; fin_cases a <;> rfl⟩
  refine (Cert.KernelIdeal.Second.final_mem c m b r d).trans (Eq.trans ?_ (Cert.ReferenceIdeal.Tail.mem8 _ _ _ _ _ _ _ _ _ _ _ _ b r d).symm)
  rw [mems_agree m hm c b r]

end Values

/-- Under the precondition the two programs end with the same results. -/
theorem algebraic : Cert.algebraic_KernelIdeal_ReferenceIdeal_pre_finite_untied := fun m g m' g' hm ha => by
  refine ⟨fun c => VB m c (Proc.devRef .tc Cert.KernelIdeal.main_v14_0), fun c => VB m c (Proc.devRef .tc Cert.KernelIdeal.main_v14_1), ?_, ?_⟩
  · refine (θ_run Cert.KernelIdeal.defs _ _).mono (fun _ h c => ?_) (Cert.KernelIdeal.Whole.run m g)
    refine ⟨h.1 c _ (Pipeline.devRef_mem_ucRefs (by decide)), h.1 c _ (Pipeline.devRef_mem_ucRefs (by decide)), ?_, ?_, ?_, ?_, ?_, ?_, ?_, ?_, ?_, ?_, ?_, ?_, ?_, ?_⟩ <;>
      exact arg_keeps m (h.1 c) _ rfl (by decide) (by decide) (by decide)
  · refine (θ_run Cert.ReferenceIdeal.defs _ _).mono (fun _ h c => ⟨(h c).1.trans ?_, (h c).2.1.trans ?_, (h c).2.2⟩) (Cert.ReferenceIdeal.Value.run m' g')
    · obtain ⟨a0, a1, a2, a3, a4, a5, a6, a7, a8, a9, a10, a11, a12, a13⟩ := ha c
      refine (Cert.ReferenceIdeal.Read.val_main_v515_eq (launchContents m' c)).trans (Eq.trans ?_ (out_agree m hm c).symm)
      rw [← a0, ← a1, ← a2, ← a3, ← a4, ← a5, ← a6, ← a7, ← a8, ← a9, ← a10, ← a11, ← a12, ← a13]
    · obtain ⟨a0, a1, a2, a3, a4, a5, a6, a7, a8, a9, a10, a11, a12, a13⟩ := ha c
      refine (Cert.ReferenceIdeal.Read.val_main_v500_eq (launchContents m' c)).trans (Eq.trans ?_ (mem_agree m hm c).symm)
      rw [← a0, ← a1, ← a2, ← a3, ← a4, ← a5, ← a6, ← a7, ← a8, ← a9, ← a10, ← a11]

end Cert.Proof
end
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_finite_untied.Gen.facts, frame_k, frame_i, fun m g _ => frame_i m g trivial, frame_r,
  fun m g _ => frame_r m g trivial, trivial, algebraic⟩

end Cert.Proof

end
